-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_areas_in_range [hPre_areas_in_range : Cert.Pre_areas_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_areas_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_areas_in_range [hPre_areas_in_range : Cert.Pre_areas_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_areas_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_areas_in_range [hKernelIdeal : Cert.KernelIdeal.Facts] [hPre_areas_in_range : Cert.Pre_areas_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_areas_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_areas_in_range [hReferenceIdeal : Cert.ReferenceIdeal.Facts] [hPre_areas_in_range : Cert.Pre_areas_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_areas_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_areas_in_range [hKernelIdeal : Cert.KernelIdeal.Facts] [hReferenceIdeal : Cert.ReferenceIdeal.Facts] [hPre_areas_in_range : Cert.Pre_areas_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_areas_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_areas_in_range : Cert.Pre_areas_in_range.Facts),
    quiescent_Kernel (hKernel := hKernel)
    ∧ quiescent_KernelIdeal (hKernelIdeal := hKernelIdeal)
    ∧ quiescent_KernelIdeal_pre_areas_in_range (hKernelIdeal := hKernelIdeal) (hPre_areas_in_range := hPre_areas_in_range)
    ∧ quiescent_ReferenceIdeal (hReferenceIdeal := hReferenceIdeal)
    ∧ quiescent_ReferenceIdeal_pre_areas_in_range (hReferenceIdeal := hReferenceIdeal) (hPre_areas_in_range := hPre_areas_in_range)
    ∧ preserves_Kernel_KernelIdeal
    ∧ algebraic_KernelIdeal_ReferenceIdeal_pre_areas_in_range (hKernelIdeal := hKernelIdeal) (hReferenceIdeal := hReferenceIdeal) (hPre_areas_in_range := hPre_areas_in_range)
-- ==== Pre_areas_in_range.lean ====
abbrev S5000x4 : Shape := ⟨2, ![5000, 4]⟩
abbrev S5000 : Shape := ⟨1, ![5000]⟩
abbrev S5000x1 : Shape := ⟨2, ![5000, 1]⟩
abbrev S_ : Shape := ⟨0, ![]⟩

class Facts : Prop where
  slices_S5000x4_S5000x1_0_2 : S5000x4.Slices ![0, 2] S5000x1
  shapeCasts_S5000x1_S5000 : S5000x1.ShapeCasts S5000
  slices_S5000x4_S5000x1_0_0 : S5000x4.Slices ![0, 0] S5000x1
  slices_S5000x4_S5000x1_0_3 : S5000x4.Slices ![0, 3] S5000x1
  slices_S5000x4_S5000x1_0_1 : S5000x4.Slices ![0, 1] S5000x1
  bcast_S_S5000 : S_.BroadcastsInDim S5000 (![] : Fin 0 → Fin S5000.rank)

variable [Facts]

def fn {F : FTy → Type} [FloatOps F] (main_arg0 : FVec F S5000x4 .f32) (main_arg1 : FVec F S5000 .f32) : IVec S5000 1 :=
  let main_v0 : FVec F S5000x1 .f32 := (extractStridedSlice S5000x1 ![0, 2] · slices_S5000x4_S5000x1_0_2) main_arg0
  let main_v1 : FVec F S5000 .f32 := shapeCast S5000 main_v0 shapeCasts_S5000x1_S5000
  let main_v2 : FVec F S5000x1 .f32 := (extractStridedSlice S5000x1 ![0, 0] · slices_S5000x4_S5000x1_0_0) main_arg0
  let main_v3 : FVec F S5000 .f32 := shapeCast S5000 main_v2 shapeCasts_S5000x1_S5000
  let main_v4 : FVec F S5000 .f32 := subf main_v1 main_v3
  let main_v5 : FVec F S5000x1 .f32 := (extractStridedSlice S5000x1 ![0, 3] · slices_S5000x4_S5000x1_0_3) main_arg0
  let main_v6 : FVec F S5000 .f32 := shapeCast S5000 main_v5 shapeCasts_S5000x1_S5000
  let main_v7 : FVec F S5000x1 .f32 := (extractStridedSlice S5000x1 ![0, 1] · slices_S5000x4_S5000x1_0_1) main_arg0
  let main_v8 : FVec F S5000 .f32 := shapeCast S5000 main_v7 shapeCasts_S5000x1_S5000
  let main_v9 : FVec F S5000 .f32 := subf main_v6 main_v8
  let main_v10 : FVec F S5000 .f32 := mulf main_v4 main_v9
  let main_cst : FVec F S_ .f32 := constant S_ .f32 0x3089705F#32
  let main_v11 : FVec F S5000 .f32 := broadcastInDim S5000 ![] bcast_S_S5000 main_cst
  let main_v12 : IVec S5000 1 := cmpf .oge main_v10 main_v11
  let main_cst_0 : FVec F S_ .f32 := constant S_ .f32 0x7F800000#32
  let main_v13 : FVec F S5000 .f32 := broadcastInDim S5000 ![] bcast_S_S5000 main_cst_0
  let main_v14 : IVec S5000 1 := cmpf .olt main_v10 main_v13
  let main_v15 : IVec S5000 1 := andi main_v12 main_v14
  main_v15
-- ==== Kernel.lean ====
abbrev S5000x4 : Shape := ⟨2, ![5000, 4]⟩
abbrev S5000 : Shape := ⟨1, ![5000]⟩
abbrev S5x2x2 : Shape := ⟨3, ![5, 2, 2]⟩
abbrev S5000x1 : Shape := ⟨2, ![5000, 1]⟩
abbrev S5000x5 : Shape := ⟨2, ![5000, 5]⟩
abbrev S_ : Shape := ⟨0, ![]⟩
abbrev S5120x8 : Shape := ⟨2, ![5120, 8]⟩
abbrev S5x1024x8 : Shape := ⟨3, ![5, 1024, 8]⟩
abbrev S5x8x1024 : Shape := ⟨3, ![5, 8, 1024]⟩
abbrev S5x1024x128 : Shape := ⟨3, ![5, 1024, 128]⟩
abbrev S5x1x1024 : Shape := ⟨3, ![5, 1, 1024]⟩
abbrev S1x1x1 : Shape := ⟨3, ![1, 1, 1]⟩
abbrev S1x1024x8 : Shape := ⟨3, ![1, 1024, 8]⟩
abbrev S1024x8 : Shape := ⟨2, ![1024, 8]⟩
abbrev S1x8x1024 : Shape := ⟨3, ![1, 8, 1024]⟩
abbrev S8x1024 : Shape := ⟨2, ![8, 1024]⟩
abbrev S1024x1 : Shape := ⟨2, ![1024, 1]⟩
abbrev S1x1024 : Shape := ⟨2, ![1, 1024]⟩
abbrev S1024x1024 : Shape := ⟨2, ![1024, 1024]⟩
abbrev S1024x128 : Shape := ⟨2, ![1024, 128]⟩
abbrev S1024 : Shape := ⟨1, ![1024]⟩
abbrev S1x1024x128 : Shape := ⟨3, ![1, 1024, 128]⟩
abbrev S1x1x1024 : Shape := ⟨3, ![1, 1, 1024]⟩

abbrev nBuf : Space → Nat
  | .hbm => 13
  | .vmem => 5
  | .smem => 1
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5x2x2, .i32⟩
  | .hbm, ⟨3, _⟩ => ⟨S5000x1, .f32⟩
  | .hbm, ⟨4, _⟩ => ⟨S5000x5, .f32⟩
  | .hbm, ⟨5, _⟩ => ⟨S_, .i32⟩
  | .hbm, ⟨6, _⟩ => ⟨S_, .f32⟩
  | .hbm, ⟨7, _⟩ => ⟨S5120x8, .f32⟩
  | .hbm, ⟨8, _⟩ => ⟨S5x1024x8, .f32⟩
  | .hbm, ⟨9, _⟩ => ⟨S5x8x1024, .f32⟩
  | .hbm, ⟨10, _⟩ => ⟨S5x1024x8, .f32⟩
  | .hbm, ⟨11, _⟩ => ⟨S5120x8, .f32⟩
  | .hbm, ⟨12, _⟩ => ⟨S5000x5, .f32⟩
  | .local _ .vmem, ⟨0, _⟩ => ⟨S5x1024x8, .f32⟩
  | .local _ .vmem, ⟨1, _⟩ => ⟨S5x8x1024, .f32⟩
  | .local _ .vmem, ⟨2, _⟩ => ⟨S5x1024x8, .f32⟩
  | .local _ .vmem, ⟨3, _⟩ => ⟨S5x1024x128, .f32⟩
  | .local _ .vmem, ⟨4, _⟩ => ⟨S5x1x1024, .f32⟩
  | .local _ .smem, ⟨0, _⟩ => ⟨S5x2x2, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c5_i32 : BitVec 32 := 5#32
  let v8 : BitVec 32 := Scalar.addi c0_i32 c5_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v15 : Index := Scalar.indexCast arg6
  let c0_11 : Index := 0#32
  let c0_12 : Index := 0#32
  ![v15.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v17 : Index := Scalar.indexCast arg6
  let c0_13 : Index := 0#32
  let c1 : Index := 1#32
  ![v17.toNat, 0, 1]
def k0_off3 (v16 : BitVec 32) : Fin 3 → Nat :=
  let v19 : Index := Scalar.indexCast v16
  let c0_14 : Index := 0#32
  let c0_15 : Index := 0#32
  ![v19.toNat, 0, 0]

def k0_off4 (v18 : BitVec 32) : Fin 3 → Nat :=
  let v22 : Index := Scalar.indexCast v18
  let c0_16 : Index := 0#32
  let c0_17 : Index := 0#32
  ![v22.toNat, 0, 0]

def k0_off5 (v16 : BitVec 32) : Fin 3 → Nat :=
  let v87 : Index := Scalar.indexCast v16
  let c0_22 : Index := 0#32
  let c0_23 : Index := 0#32
  ![v87.toNat, 0, 0]

def k0_chk1 (v16 : BitVec 32) : Prop :=
  (∀ a, (k0_off3 v16) a + S1x1024x8.size a ≤ S5x1024x8.size a) ∧
  (∀ a, (k0_off5 v16) a + S1x1024x128.size a ≤ S5x1024x128.size a)
theorem k0_off3_inb : ∀ (v16 : BitVec 32) (k0_hw1 : k0_chk1 v16), ∀ a, (k0_off3 v16) a + S1x1024x8.size a ≤ S5x1024x8.size a := fun v16 k0_hw1 => k0_hw1.1
theorem k0_off5_inb : ∀ (v16 : BitVec 32) (k0_hw1 : k0_chk1 v16), ∀ a, (k0_off5 v16) a + S1x1024x128.size a ≤ S5x1024x128.size a := fun v16 k0_hw1 => k0_hw1.2

def k0_off6 (v18 : BitVec 32) : Fin 3 → Nat :=
  let v95 : Index := Scalar.indexCast v18
  let c0_26 : Index := 0#32
  let c0_27 : Index := 0#32
  ![v95.toNat, 0, 0]

def k0_chk2 (v18 : BitVec 32) : Prop :=
  (∀ a, (k0_off4 v18) a + S1x8x1024.size a ≤ S5x8x1024.size a) ∧
  (∀ a, (k0_off6 v18) a + S1x1x1024.size a ≤ S5x1x1024.size a)
theorem k0_off4_inb : ∀ (v18 : BitVec 32) (k0_hw2 : k0_chk2 v18), ∀ a, (k0_off4 v18) a + S1x8x1024.size a ≤ S5x8x1024.size a := fun v18 k0_hw2 => k0_hw2.1
theorem k0_off6_inb : ∀ (v18 : BitVec 32) (k0_hw2 : k0_chk2 v18), ∀ a, (k0_off6 v18) a + S1x1x1024.size a ≤ S5x1x1024.size a := fun v18 k0_hw2 => k0_hw2.2

def k0_off7 (k0_t1 : Fin k0_t1_loop.trips) : Fin 3 → Nat :=
  let c0_i32 : BitVec 32 := 0#32
  let c1_i32 : BitVec 32 := 1#32
  let arg6 : BitVec 32 := Scf.iv c0_i32 c1_i32 k0_t1
  let v103 : Index := Scalar.indexCast arg6
  let c1_30 : Index := 1#32
  let c0_31 : Index := 0#32
  ![v103.toNat, 1, 0]
def k0_off8 (k0_t1 : Fin k0_t1_loop.trips) : Fin 3 → Nat :=
  let c0_i32 : BitVec 32 := 0#32
  let c1_i32 : BitVec 32 := 1#32
  let arg6 : BitVec 32 := Scf.iv c0_i32 c1_i32 k0_t1
  let v105 : Index := Scalar.indexCast arg6
  let c1_32 : Index := 1#32
  let c1_33 : Index := 1#32
  ![v105.toNat, 1, 1]
def k0_off9 (v104 : BitVec 32) : Fin 3 → Nat :=
  let v107 : Index := Scalar.indexCast v104
  let c0_34 : Index := 0#32
  let c0_35 : Index := 0#32
  ![v107.toNat, 0, 0]

def k0_off10 (v106 : BitVec 32) : Fin 3 → Nat :=
  let v110 : Index := Scalar.indexCast v106
  let c0_36 : Index := 0#32
  let c0_37 : Index := 0#32
  ![v110.toNat, 0, 0]

def k0_off11 (v104 : BitVec 32) : Fin 3 → Nat :=
  let v175 : Index := Scalar.indexCast v104
  let c0_42 : Index := 0#32
  let c0_43 : Index := 0#32
  ![v175.toNat, 0, 0]

def k0_chk3 (v104 : BitVec 32) : Prop :=
  (∀ a, (k0_off9 v104) a + S1x1024x8.size a ≤ S5x1024x8.size a) ∧
  (∀ a, (k0_off11 v104) a + S1x1024x128.size a ≤ S5x1024x128.size a)
theorem k0_off9_inb : ∀ (v104 : BitVec 32) (k0_hw3 : k0_chk3 v104), ∀ a, (k0_off9 v104) a + S1x1024x8.size a ≤ S5x1024x8.size a := fun v104 k0_hw3 => k0_hw3.1
theorem k0_off11_inb : ∀ (v104 : BitVec 32) (k0_hw3 : k0_chk3 v104), ∀ a, (k0_off11 v104) a + S1x1024x128.size a ≤ S5x1024x128.size a := fun v104 k0_hw3 => k0_hw3.2

def k0_off12 (v106 : BitVec 32) : Fin 3 → Nat :=
  let v183 : Index := Scalar.indexCast v106
  let c0_46 : Index := 0#32
  let c0_47 : Index := 0#32
  ![v183.toNat, 0, 0]

def k0_chk4 (v106 : BitVec 32) : Prop :=
  (∀ a, (k0_off10 v106) a + S1x8x1024.size a ≤ S5x8x1024.size a) ∧
  (∀ a, (k0_off12 v106) a + S1x1x1024.size a ≤ S5x1x1024.size a)
theorem k0_off10_inb : ∀ (v106 : BitVec 32) (k0_hw4 : k0_chk4 v106), ∀ a, (k0_off10 v106) a + S1x8x1024.size a ≤ S5x8x1024.size a := fun v106 k0_hw4 => k0_hw4.1
theorem k0_off12_inb : ∀ (v106 : BitVec 32) (k0_hw4 : k0_chk4 v106), ∀ a, (k0_off12 v106) a + S1x1x1024.size a ≤ S5x1x1024.size a := fun v106 k0_hw4 => k0_hw4.2

@[reducible] def k0_t2_loop : Scf.Loop 32 :=
  let c0_i32_7 : BitVec 32 := 0#32
  let c5_i32_8 : BitVec 32 := 5#32
  let v14 : BitVec 32 := Scalar.addi c0_i32_7 c5_i32_8
  let c1_i32_9 : BitVec 32 := 1#32
  ⟨c0_i32_7, v14, c1_i32_9⟩
def k0_off13 (k0_t2 : Fin k0_t2_loop.trips) : Fin 3 → Nat :=
  let c0_i32_7 : BitVec 32 := 0#32
  let c1_i32_9 : BitVec 32 := 1#32
  let arg6 : BitVec 32 := Scf.iv c0_i32_7 c1_i32_9 k0_t2
  let v15 : Index := Scalar.indexCast arg6
  let c0_11 : Index := 0#32
  let c0_12 : Index := 0#32
  ![v15.toNat, 0, 0]
def k0_off14 (k0_t2 : Fin k0_t2_loop.trips) : Fin 3 → Nat :=
  let c0_i32_7 : BitVec 32 := 0#32
  let c1_i32_9 : BitVec 32 := 1#32
  let arg6 : BitVec 32 := Scf.iv c0_i32_7 c1_i32_9 k0_t2
  let v18 : Index := Scalar.indexCast arg6
  let c0_13 : Index := 0#32
  let c0_14 : Index := 0#32
  ![v18.toNat, 0, 0]
def k0_off15 (k0_t2 : Fin k0_t2_loop.trips) : Fin 3 → Nat :=
  let c0_i32_7 : BitVec 32 := 0#32
  let c1_i32_9 : BitVec 32 := 1#32
  let arg6 : BitVec 32 := Scf.iv c0_i32_7 c1_i32_9 k0_t2
  let v69 : Index := Scalar.indexCast arg6
  let c0_17 : Index := 0#32
  let c0_18 : Index := 0#32
  ![v69.toNat, 0, 0]
def k0_off16 (k0_t2 : Fin k0_t2_loop.trips) : Fin 3 → Nat :=
  let c0_i32_7 : BitVec 32 := 0#32
  let c1_i32_9 : BitVec 32 := 1#32
  let arg6 : BitVec 32 := Scf.iv c0_i32_7 c1_i32_9 k0_t2
  let v90 : Index := Scalar.indexCast arg6
  let c0_20 : Index := 0#32
  let c0_21 : Index := 0#32
  ![v90.toNat, 0, 0]
abbrev stage0_0 : Fin 1 → Memref sig .tc .smem S5x2x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x1 : Shape := ⟨2, ![1, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S5000x5 : Shape := ⟨2, ![5000, 5]⟩

abbrev nBuf : Space → Nat
  | .hbm => 116
  | .vmem => 0
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S1, .i32⟩
  | .hbm, ⟨15, _⟩ => ⟨S_, .i32⟩
  | .hbm, ⟨16, _⟩ => ⟨S5000x1, .i32⟩
  | .hbm, ⟨17, _⟩ => ⟨S5000x1, .i1⟩
  | .hbm, ⟨18, _⟩ => ⟨S1x1, .i32⟩
  | .hbm, ⟨19, _⟩ => ⟨S5000x1, .i32⟩
  | .hbm, ⟨20, _⟩ => ⟨S5000x1, .i1⟩
  | .hbm, ⟨21, _⟩ => ⟨S5000x1, .i1⟩
  | .hbm, ⟨22, _⟩ => ⟨S_, .i1⟩
  | .hbm, ⟨23, _⟩ => ⟨S5000, .i1⟩
  | .hbm, ⟨24, _⟩ => ⟨S5000x4, .f32⟩
  | .hbm, ⟨25, _⟩ => ⟨S5000x4, .i1⟩
  | .hbm, ⟨26, _⟩ => ⟨S_, .f32⟩
  | .hbm, ⟨27, _⟩ => ⟨S5000x4, .f32⟩
  | .hbm, ⟨28, _⟩ => ⟨S5000x4, .f32⟩
  | .hbm, ⟨29, _⟩ => ⟨S5000x1, .f32⟩
  | .hbm, ⟨30, _⟩ => ⟨S5000, .f32⟩
  | .hbm, ⟨31, _⟩ => ⟨S5000x1, .f32⟩
  | .hbm, ⟨32, _⟩ => ⟨S5000, .f32⟩
  | .hbm, ⟨33, _⟩ => ⟨S5000, .f32⟩
  | .hbm, ⟨34, _⟩ => ⟨S5000x1, .f32⟩
  | .hbm, ⟨35, _⟩ => ⟨S5000, .f32⟩
  | .hbm, ⟨36, _⟩ => ⟨S5000x1, .f32⟩
  | .hbm, ⟨37, _⟩ => ⟨S5000, .f32⟩
  | .hbm, ⟨38, _⟩ => ⟨S5000, .f32⟩
  | .hbm, ⟨39, _⟩ => ⟨S5000, .f32⟩
  | .hbm, ⟨40, _⟩ => ⟨S5000x1, .f32⟩
  | .hbm, ⟨41, _⟩ => ⟨S5000, .f32⟩
  | .hbm, ⟨42, _⟩ => ⟨S5000x1, .f32⟩
  | .hbm, ⟨43, _⟩ => ⟨S5000, .f32⟩
  | .hbm, ⟨44, _⟩ => ⟨S5000, .f32⟩
  | .hbm, ⟨45, _⟩ => ⟨S5000x1, .f32⟩
  | .hbm, ⟨46, _⟩ => ⟨S5000, .f32⟩
  | .hbm, ⟨47, _⟩ => ⟨S5000x1, .f32⟩
  | .hbm, ⟨48, _⟩ => ⟨S5000, .f32⟩
  | .hbm, ⟨49, _⟩ => ⟨S5000, .f32⟩
  | .hbm, ⟨50, _⟩ => ⟨S5000, .f32⟩
  | .hbm, ⟨51, _⟩ => ⟨S5000x2, .f32⟩
  | .hbm, ⟨52, _⟩ => ⟨S5000x1x2, .f32⟩
  | .hbm, ⟨53, _⟩ => ⟨S5000x2, .f32⟩
  | .hbm, ⟨54, _⟩ => ⟨S1x5000x2, .f32⟩
  | .hbm, ⟨55, _⟩ => ⟨S5000x5000x2, .f32⟩
  | .hbm, ⟨56, _⟩ => ⟨S5000x5000x2, .f32⟩
  | .hbm, ⟨57, _⟩ => ⟨S5000x5000x2, .f32⟩
  | .hbm, ⟨58, _⟩ => ⟨S5000x2, .f32⟩
  | .hbm, ⟨59, _⟩ => ⟨S5000x1x2, .f32⟩
  | .hbm, ⟨60, _⟩ => ⟨S5000x2, .f32⟩
  | .hbm, ⟨61, _⟩ => ⟨S1x5000x2, .f32⟩
  | .hbm, ⟨62, _⟩ => ⟨S5000x5000x2, .f32⟩
  | .hbm, ⟨63, _⟩ => ⟨S5000x5000x2, .f32⟩
  | .hbm, ⟨64, _⟩ => ⟨S5000x5000x2, .f32⟩
  | .hbm, ⟨65, _⟩ => ⟨S5000x5000x2, .f32⟩
  | .hbm, ⟨66, _⟩ => ⟨S_, .f32⟩
  | .hbm, ⟨67, _⟩ => ⟨S_, .f32⟩
  | .hbm, ⟨68, _⟩ => ⟨S5000x5000x2, .f32⟩
  | .hbm, ⟨69, _⟩ => ⟨S5000x5000x2, .f32⟩
  | .hbm, ⟨70, _⟩ => ⟨S5000x5000x1, .f32⟩
  | .hbm, ⟨71, _⟩ => ⟨S5000x5000, .f32⟩
  | .hbm, ⟨72, _⟩ => ⟨S5000x5000x1, .f32⟩
  | .hbm, ⟨73, _⟩ => ⟨S5000x5000, .f32⟩
  | .hbm, ⟨74, _⟩ => ⟨S5000x5000, .f32⟩
  | .hbm, ⟨75, _⟩ => ⟨S5000x1, .f32⟩
  | .hbm, ⟨76, _⟩ => ⟨S1x5000, .f32⟩
  | .hbm, ⟨77, _⟩ => ⟨S5000x5000, .f32⟩
  | .hbm, ⟨78, _⟩ => ⟨S5000x5000, .f32⟩
  | .hbm, ⟨79, _⟩ => ⟨S5000x5000, .f32⟩
  | .hbm, ⟨80, _⟩ => ⟨S5000x5000, .f32⟩
  | .hbm, ⟨81, _⟩ => ⟨S_, .f32⟩
  | .hbm, ⟨82, _⟩ => ⟨S5000x5000, .f32⟩
  | .hbm, ⟨83, _⟩ => ⟨S5000x5000, .f32⟩
  | .hbm, ⟨84, _⟩ => ⟨S5000x5000, .f32⟩
  | .hbm, ⟨85, _⟩ => ⟨S5000x5000, .i32⟩
  | .hbm, ⟨86, _⟩ => ⟨S_, .i32⟩
  | .hbm, ⟨87, _⟩ => ⟨S5000x5000, .i32⟩
  | .hbm, ⟨88, _⟩ => ⟨S5000x5000, .i32⟩
  | .hbm, ⟨89, _⟩ => ⟨S5000x5000, .i32⟩
  | .hbm, ⟨90, _⟩ => ⟨S5000x5000, .i1⟩
  | .hbm, ⟨91, _⟩ => ⟨S_, .f32⟩
  | .hbm, ⟨92, _⟩ => ⟨S5000x5000, .f32⟩
  | .hbm, ⟨93, _⟩ => ⟨S5000x5000, .f32⟩
  | .hbm, ⟨94, _⟩ => ⟨S_, .f32⟩
  | .hbm, ⟨95, _⟩ => ⟨S5000, .f32⟩
  | .hbm, ⟨96, _⟩ => ⟨S_, .f32⟩
  | .hbm, ⟨97, _⟩ => ⟨S5000, .f32⟩
  | .hbm, ⟨98, _⟩ => ⟨S5000, .i1⟩
  | .hbm, ⟨99, _⟩ => ⟨S_, .i1⟩
  | .hbm, ⟨100, _⟩ => ⟨S5000, .i1⟩
  | .hbm, ⟨101, _⟩ => ⟨S_, .i32⟩
  | .hbm, ⟨102, _⟩ => ⟨S5000, .i32⟩
  | .hbm, ⟨103, _⟩ => ⟨S5000, .i1⟩
  | .hbm, ⟨104, _⟩ => ⟨S_, .i32⟩
  | .hbm, ⟨105, _⟩ => ⟨S5000, .i32⟩
  | .hbm, ⟨106, _⟩ => ⟨S5000, .i32⟩
  | .hbm, ⟨107, _⟩ => ⟨S5000, .i32⟩
  | .hbm, ⟨108, _⟩ => ⟨S5000x1, .i32⟩
  | .hbm, ⟨109, _⟩ => ⟨S5000, .i1⟩
  | .hbm, ⟨110, _⟩ => ⟨S5000, .f32⟩
  | .hbm, ⟨111, _⟩ => ⟨S5000x1, .f32⟩
  | .hbm, ⟨112, _⟩ => ⟨S5000x5, .f32⟩
  | .hbm, ⟨113, _⟩ => ⟨S5000x1, .f32⟩
  | .hbm, ⟨114, _⟩ => ⟨S5000x5, .f32⟩
  | .hbm, ⟨115, _⟩ => ⟨S5000x5, .f32⟩
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_cst : Ref sig .tc := ⟨.hbm, 91, rfl⟩
abbrev main_call3_v5 : Ref sig .tc := ⟨.hbm, 92, rfl⟩
abbrev main_v55 : Ref sig .tc := ⟨.hbm, 93, rfl⟩
abbrev main_cst_1 : Ref sig .tc := ⟨.hbm, 94, rfl⟩
abbrev main_v56 : Ref sig .tc := ⟨.hbm, 95, rfl⟩
abbrev main_cst_2 : Ref sig .tc := ⟨.hbm, 96, rfl⟩
abbrev main_v57 : Ref sig .tc := ⟨.hbm, 97, rfl⟩
abbrev main_v58 : Ref sig .tc := ⟨.hbm, 98, rfl⟩
abbrev main_c : Ref sig .tc := ⟨.hbm, 99, rfl⟩
abbrev main_v59 : Ref sig .tc := ⟨.hbm, 100, rfl⟩
abbrev main_c_3 : Ref sig .tc := ⟨.hbm, 101, rfl⟩
abbrev main_v60 : Ref sig .tc := ⟨.hbm, 102, rfl⟩
abbrev main_v61 : Ref sig .tc := ⟨.hbm, 103, rfl⟩
abbrev main_c_4 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]
-- ==== Proof.HypsIdeal.lean ====
module

public import proofs.«01_k».proof.Defs
public import proofs.«01_k».proof.Proof.Gen.KernelIdeal.Frame

@[expose] public section

set_option maxRecDepth 16384

noncomputable section

namespace Cert.NmsIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- The literal schedule table, at an index of its array. -/
def sched : S5x2x2.Idx → BitVec 32 := fun i => lit0 (S5x2x2.rowMajor i)

/-- The schedule array the host writes before the kernel runs is the program's literal table. -/
theorem sched_written (c : Dev nD) : V m c main_c = sched := by
  show StableHlo.after (List.flatten [hostOps0, hostOps0_1, hostOps0_2]) (fun b => m (c, b)) (Proc.devRef .tc main_c) = _
  simp only [List.flatten_cons, List.flatten_nil, List.append_nil, List.cons_append, List.nil_append]
  after_results
  rfl

/-- Every word of the schedule is below 5: it names one of the five blocks. -/
theorem sched_lt (i : S5x2x2.Idx) : (sched i).toNat < 5 := by
  have h : ∀ j : Fin 20, (lit0 j).toNat < 5 := by decide
  exact h _

/-- Every word of the schedule's block at a point is a word of the table. -/
theorem sched_block_lt (c : Dev nD) (t : Fin cfg0.N) (i : S5x2x2.Idx) : (iblk m c 0 t i : BitVec 32).toNat < 5 := by
  unfold iblk
  rw [View.read_apply, cast_eq]
  show (V m c main_c _ : BitVec 32).toNat < 5
  rw [sched_written]
  exact sched_lt _

/-- A word below 5 names a row block and row accumulator that are inside their arrays. -/
theorem chk1_of_lt (v : BitVec 32) (h : v.toNat < 5) : k0_chk1 v := by
  unfold k0_chk1 k0_off3 k0_off5
  constructor <;> intro a <;> fin_cases a <;> simp [Scalar.indexCast] <;> omega

/-- A word below 5 names a column block and column accumulator that are inside their arrays. -/
theorem chk2_of_lt (v : BitVec 32) (h : v.toNat < 5) : k0_chk2 v := by
  unfold k0_chk2 k0_off4 k0_off6
  constructor <;> intro a <;> fin_cases a <;> simp [Scalar.indexCast] <;> omega

/-- A word below 5 names a row block and row accumulator that are inside their arrays. -/
theorem chk3_of_lt (v : BitVec 32) (h : v.toNat < 5) : k0_chk3 v := by
  unfold k0_chk3 k0_off9 k0_off11
  constructor <;> intro a <;> fin_cases a <;> simp [Scalar.indexCast] <;> omega

/-- A word below 5 names a column block and column accumulator that are inside their arrays. -/
theorem chk4_of_lt (v : BitVec 32) (h : v.toNat < 5) : k0_chk4 v := by
  unfold k0_chk4 k0_off10 k0_off12
  constructor <;> intro a <;> fin_cases a <;> simp [Scalar.indexCast] <;> omega

/-- A word read out of a whole schedule buffer whose words are all below 5 is below 5. -/
theorem read_lt (arg0 : Memref sig .tc .smem S5x2x2 .i32) (harg0 : arg0.IsWhole) (x0 : Vec F S5x2x2 .i32)
    (hx : ∀ i, (x0 i : BitVec 32).toNat < 5) (r : LoadRect S5x2x2) (i : r.shape.Idx) :
    (arg0.view.readAt (Elt F) r (harg0.unread x0) i : BitVec 32).toNat < 5 := by
  rw [View.readAt_apply, Memref.IsWhole.read_unread]
  exact hx _

/-- So every side condition that the kernel body assumes of the words it reads holds. -/
theorem hyps : Hyps m := by
  refine Hyps.of ?_ ?_ ?_ ?_
  · intro c t kq hkq
    exact chk1_of_lt _ (read_lt (ms0_0 t) (hs0_0 t) (iblk m c 0 t) (sched_block_lt m c t) _ _)
  · intro c t kq hkq
    exact chk2_of_lt _ (read_lt (ms0_0 t) (hs0_0 t) (iblk m c 0 t) (sched_block_lt m c t) _ _)
  · intro c t kq hkq
    exact chk3_of_lt _ (read_lt (ms0_0 t) (hs0_0 t) (iblk m c 0 t) (sched_block_lt m c t) _ _)
  · intro c t kq hkq
    exact chk4_of_lt _ (read_lt (ms0_0 t) (hs0_0 t) (iblk m c 0 t) (sched_block_lt m c t) _ _)

end Cert.NmsIdeal

end
-- ==== Proof.Payload.lean ====
module

public import proofs.«01_k».proof.Proof.HypsIdeal
public import Idealize.ShloMosaic.Lib.Pointwise
public import Idealize.ShloMosaic.Lib.ValueIdx

@[expose] public section

set_option maxRecDepth 16384

noncomputable section

namespace Cert.NmsIdeal

open Cert.KernelIdeal Cert.KernelIdeal.Gen
open Idealize.ShloMosaic Idealize.ShloMosaic.TcCoe

/-- The overlap ratio the kernel divides out for two boxes, each given by its eight entries
    (x1, y1, x2, y2, score, 0, 0, 0): the raw width times the clipped height, over the two areas less that product. -/
def kiou (p q : Fin 8 → EReal) : EReal :=
  Ideal.div ((min (p 2) (q 2) - max (p 0) (q 0)) * max (min (p 3) (q 3) - max (p 1) (q 1)) 0)
    ((p 2 - p 0) * (p 3 - p 1) + (q 2 - q 0) * (q 3 - q 1)
      - (min (p 2) (q 2) - max (p 0) (q 0)) * max (min (p 3) (q 3) - max (p 1) (q 1)) 0)

/-- Row `r` of a block of boxes stored one box per row. -/
def rowOf (R : Vec Ideal S1x1024x8 .f32) (r : Fin 1024) : Fin 8 → EReal := fun j => R (ix3 0 r j)

/-- Column `c` of a block of boxes stored one box per column. -/
def colOf (C : Vec Ideal S1x8x1024 .f32) (c : Fin 1024) : Fin 8 → EReal := fun j => C (ix3 0 j c)

/-- The first overlap table of a pair step, entry by entry: the kernel's quotient of row and column. -/
theorem pay11_apply (R : Vec Ideal S1x1024x8 .f32) (C : Vec Ideal S1x8x1024 .f32) (r c : Fin 1024) :
    k0_pay11 (F := Ideal) R C (ix2 r c) = kiou (rowOf R r) (colOf C c) := by
  unfold k0_pay11 k0_pay7 k0_pay8
  pointwise
  rfl

/-- The score column of a pair step. -/
theorem pay9_apply (R : Vec Ideal S1x1024x8 .f32) (r : Fin 1024) :
    k0_pay9 (F := Ideal) R (ix2 r 0) = rowOf R r 4 := by
  unfold k0_pay9 k0_pay7
  pointwise
  rfl

/-- The score row of a pair step. -/
theorem pay10_apply (C : Vec Ideal S1x8x1024 .f32) (c : Fin 1024) :
    k0_pay10 (F := Ideal) C (ix2 0 c) = colOf C c 4 := by
  unfold k0_pay10 k0_pay8
  pointwise
  rfl

/-- The threshold one half, as the programs' literal denotes it. -/
def half : EReal := Ideal.ofBits .f32 0x3F000000#32

/-- The threshold is not negative. -/
theorem half_nonneg : 0 ≤ half := by
  unfold half
  simp [Ideal.ofBits, Ideal.ieee, -EReal.coe_mul]

/-- Minus infinity. -/
theorem negInf_eq : Ideal.ofBits .f32 0xFF800000#32 = ⊥ := by
  simp [Ideal.ofBits, Ideal.ieee]

/-- A value guarded by a condition, with 0 otherwise, is over the threshold only if the condition holds. -/
theorem half_lt_ite (p : Prop) [Decidable p] (x : EReal) : half < (if p then x else 0) ↔ p ∧ half < x := by
  by_cases h : p
  · simp [h]
  · simp [h, half_nonneg]

/-- The same with the two arms exchanged. -/
theorem half_lt_ite' (p : Prop) [Decidable p] (x : EReal) : half < (if p then 0 else x) ↔ ¬p ∧ half < x := by
  by_cases h : p
  · simp [h, half_nonneg]
  · simp [h]

/-- A maximum taken from minus infinity is over the threshold when one of its terms is. -/
theorem half_lt_fold {n : ℕ} (f : Fin n → EReal) :
    half < Finset.fold max (Ideal.ofBits .f32 0xFF800000#32) f Finset.univ ↔ ∃ x, half < f x := by
  rw [Finset.lt_fold_max, negInf_eq]
  simp

/-- Some one of eight, spelled out. -/
theorem exists_fin8 (P : Fin 8 → Prop) : (∃ s, P s) ↔ P 0 ∨ P 1 ∨ P 2 ∨ P 3 ∨ P 4 ∨ P 5 ∨ P 6 ∨ P 7 := by
  constructor
  · rintro ⟨s, h⟩
    fin_cases s <;> simp_all
  · rintro (h | h | h | h | h | h | h | h) <;> exact ⟨_, h⟩

/-- Column `128 s + l` of a block: lane `l` of its `s`-th strip of 128. -/
def strip (s : Fin 8) (l : Fin 128) : Fin 1024 := ⟨128 * s.val + l.val, by omega⟩

/-- Some strip holds at lane `l`, spelled out column by column. -/
theorem exists_strip (P : Fin 1024 → Prop) (l : Fin 128) :
    (∃ s : Fin 8, P (strip s l)) ↔ P ⟨l.val, by omega⟩ ∨ P ⟨128 + l.val, by omega⟩ ∨ P ⟨256 + l.val, by omega⟩
      ∨ P ⟨384 + l.val, by omega⟩ ∨ P ⟨512 + l.val, by omega⟩ ∨ P ⟨640 + l.val, by omega⟩
      ∨ P ⟨768 + l.val, by omega⟩ ∨ P ⟨896 + l.val, by omega⟩ := by
  rw [exists_fin8]
  have h : ∀ (s : Fin 8) (n : ℕ) (hn : n < 1024), 128 * s.val + l.val = n → strip s l = ⟨n, hn⟩ :=
    fun s n hn e => Fin.ext e
  rw [h 0 l.val (by omega) (by simp), h 1 (128 + l.val) (by omega) rfl, h 2 (256 + l.val) (by omega) rfl,
    h 3 (384 + l.val) (by omega) rfl, h 4 (512 + l.val) (by omega) rfl, h 5 (640 + l.val) (by omega) rfl,
    h 6 (768 + l.val) (by omega) rfl, h 7 (896 + l.val) (by omega) rfl]

/-- The row accumulator after a first-of-pair step: over the threshold at a lane if it was, or if some column of that
    lane beats the row and overlaps it by more than the threshold. -/
theorem pay13_gt (v25 : FVec Ideal S1024x1 .f32) (v26 : FVec Ideal S1x1024 .f32) (x : FVec Ideal S1024x1024 .f32)
    (A : Vec Ideal S1x1024x128 .f32) (r : Fin 1024) (l : Fin 128) :
    half < k0_pay13 (F := Ideal) v25 v26 x A (ix3 0 r l) ↔ half < A (ix3 0 r l) ∨
      ∃ s : Fin 8, v25 (ix2 r 0) ≤ v26 (ix2 0 (strip s l)) ∧ half < x (ix2 r (strip s l)) := by
  rw [exists_strip fun c => v25 (ix2 r 0) ≤ v26 (ix2 0 c) ∧ half < x (ix2 r c)]
  unfold k0_pay13 k0_pay12
  pointwise
  simp only [lt_max_iff, half_lt_ite, or_assoc]

/-- The column accumulator after a first-of-pair step. -/
theorem pay14_gt (v25 : FVec Ideal S1024x1 .f32) (v26 : FVec Ideal S1x1024 .f32) (x : FVec Ideal S1024x1024 .f32)
    (A : Vec Ideal S1x1x1024 .f32) (c : Fin 1024) :
    half < k0_pay14 (F := Ideal) v25 v26 x A (ix3 0 0 c) ↔ half < A (ix3 0 0 c) ∨
      ∃ r : Fin 1024, ¬(v25 (ix2 r 0) ≤ v26 (ix2 0 c)) ∧ half < x (ix2 r c) := by
  unfold k0_pay14 k0_pay12
  pointwise
  simp only [lt_max_iff, half_lt_fold, half_lt_ite']

/-- The overlap table of the second pair step, entry by entry. -/
theorem pay17_apply (R : Vec Ideal S1x1024x8 .f32) (C : Vec Ideal S1x8x1024 .f32) (r c : Fin 1024) :
    k0_pay17 (F := Ideal) R C (ix2 r c) = kiou (rowOf R r) (colOf C c) := by
  unfold k0_pay17 k0_pay15 k0_pay16
  pointwise
  rfl

/-- The overlap table of a block with itself, entry by entry. -/
theorem pay24_apply (R : Vec Ideal S1x1024x8 .f32) (C : Vec Ideal S1x8x1024 .f32) (r c : Fin 1024) :
    k0_pay24 (F := Ideal) R C (ix2 r c) = kiou (rowOf R r) (colOf C c) := by
  unfold k0_pay24 k0_pay22 k0_pay23
  pointwise
  rfl

/-- The condition under which column `c` beats row `r` in a pair of different blocks: a score at least as large. -/
def geBlocks (R : Vec Ideal S1x1024x8 .f32) (C : Vec Ideal S1x8x1024 .f32) (r c : Fin 1024) : Prop :=
  rowOf R r 4 ≤ colOf C c 4

/-- The condition under which column `c` beats row `r` in one block: a larger score, or the same and an earlier place. -/
def beatsIn (R : Vec Ideal S1x1024x8 .f32) (C : Vec Ideal S1x8x1024 .f32) (r c : Fin 1024) : Prop :=
  rowOf R r 4 < colOf C c 4 ∨ colOf C c 4 = rowOf R r 4 ∧ c < r

/-- The row step of the first pair, in the entries of the two blocks. -/
theorem rowStep1 (R : Vec Ideal S1x1024x8 .f32) (C : Vec Ideal S1x8x1024 .f32)
    (A : Vec Ideal S1x1024x128 .f32) (r : Fin 1024) (l : Fin 128) :
    half < k0_pay13 (F := Ideal) (k0_pay9 R) (k0_pay10 C) (k0_pay11 R C) A (ix3 0 r l) ↔ half < A (ix3 0 r l) ∨
      ∃ s : Fin 8, geBlocks R C r (strip s l) ∧ half < kiou (rowOf R r) (colOf C (strip s l)) := by
  rw [pay13_gt]
  simp only [pay9_apply, pay10_apply, pay11_apply, geBlocks]

/-- The column step of the first pair. -/
theorem colStep1 (R : Vec Ideal S1x1024x8 .f32) (C : Vec Ideal S1x8x1024 .f32)
    (A : Vec Ideal S1x1x1024 .f32) (c : Fin 1024) :
    half < k0_pay14 (F := Ideal) (k0_pay9 R) (k0_pay10 C) (k0_pay11 R C) A (ix3 0 0 c) ↔ half < A (ix3 0 0 c) ∨
      ∃ r : Fin 1024, ¬geBlocks R C r c ∧ half < kiou (rowOf R r) (colOf C c) := by
  rw [pay14_gt]
  simp only [pay9_apply, pay10_apply, pay11_apply, geBlocks]

/-- The row step of the second pair. -/
theorem rowStep2 (R : Vec Ideal S1x1024x8 .f32) (C : Vec Ideal S1x8x1024 .f32)
    (A : Vec Ideal S1x1024x128 .f32) (r : Fin 1024) (l : Fin 128) :
    half < k0_pay3 (F := Ideal) (k0_pay19 R C) (k0_pay20 R C) (k0_pay21 R C) A (ix3 0 r l) ↔ half < A (ix3 0 r l) ∨
      ∃ s : Fin 8, geBlocks R C r (strip s l) ∧ half < kiou (rowOf R r) (colOf C (strip s l)) := by
  rw [exists_strip fun c => geBlocks R C r c ∧ half < kiou (rowOf R r) (colOf C c)]
  unfold k0_pay3 k0_pay20 k0_pay21 k0_pay19 k0_pay18 k0_pay15 k0_pay16
  pointwise [pay17_apply]
  simp only [lt_max_iff, half_lt_ite, or_assoc]
  rfl

/-- The column step of the second pair. -/
theorem colStep2 (R : Vec Ideal S1x1024x8 .f32) (C : Vec Ideal S1x8x1024 .f32)
    (A : Vec Ideal S1x1x1024 .f32) (c : Fin 1024) :
    half < k0_pay4 (F := Ideal) (k0_pay17 R C) (k0_pay18 R C) A (ix3 0 0 c) ↔ half < A (ix3 0 0 c) ∨
      ∃ r : Fin 1024, ¬geBlocks R C r c ∧ half < kiou (rowOf R r) (colOf C c) := by
  unfold k0_pay4 k0_pay18 k0_pay15 k0_pay16
  pointwise [pay17_apply]
  simp only [lt_max_iff, half_lt_fold, half_lt_ite']
  rfl

/-- The last phase's row is set to zero under this condition: some lane of the row accumulator is over the threshold, or
    some box of the same block beats the row and overlaps it, or the column accumulator's entry is over the threshold. -/
def dropped (R : Vec Ideal S1x1024x8 .f32) (C : Vec Ideal S1x8x1024 .f32) (A : Vec Ideal S1x1024x128 .f32)
    (B : Vec Ideal S1x1x1024 .f32) (r : Fin 1024) : Prop :=
  (∃ l : Fin 128, half < A (ix3 0 r l) ∨ ∃ s : Fin 8, beatsIn R C r (strip s l) ∧ half < kiou (rowOf R r) (colOf C (strip s l)))
    ∨ half < B (ix3 0 0 r)

/-- Two block positions compared as signed words compare as numbers. -/
theorem slt_pos (a b : ℕ) (ha : a < 1024) (hb : b < 1024) :
    (BitVec.ofNat 32 a).slt (BitVec.ofNat 32 b) = decide (a < b) := by
  rw [BitVec.slt_eq_decide]
  have h : ∀ n, n < 1024 → (BitVec.ofNat 32 n).toInt = n := by
    intro n hn
    rw [BitVec.toInt_eq_toNat_of_lt] <;> simp only [BitVec.toNat_ofNat] <;> omega
  rw [h a ha, h b hb]
  simp

open Classical in
/-- The bit the last phase tests for a row and a column of one block. -/
theorem pay25_apply (R : Vec Ideal S1x1024x8 .f32) (C : Vec Ideal S1x8x1024 .f32) (r c : Fin 1024) :
    k0_pay25 (F := Ideal) k0_pay5 R C (ix2 r c) = BitVec.ofBool (decide (beatsIn R C r c)) := by
  unfold k0_pay25 k0_pay5 k0_pay22 k0_pay23
  pointwise
  have e : IntOp.cmpi .slt (BitVec.ofNat 32 c.val) (BitVec.ofNat 32 r.val) = BitVec.ofBool (decide (c < r)) :=
    congrArg BitVec.ofBool ((slt_pos c.val r.val c.isLt r.isLt).trans (by congr))
  rw [e]
  unfold beatsIn rowOf colOf
  by_cases h1 : R (ix3 0 r 4) < C (ix3 0 4 c) <;> by_cases h2 : C (ix3 0 4 c) = R (ix3 0 r 4) <;> by_cases h3 : c < r <;>
    simp [h1, h2, h3] <;> rfl

open Classical in
/-- What the last phase stores: the row of the block, or zeros where the row is dropped. -/
theorem lastStep (R : Vec Ideal S1x1024x8 .f32) (C : Vec Ideal S1x8x1024 .f32) (A : Vec Ideal S1x1024x128 .f32)
    (B : Vec Ideal S1x1x1024 .f32) (r : Fin 1024) (f : Fin 8) :
    k0_pay6 (F := Ideal) (k0_pay22 R) (k0_pay24 R C) (k0_pay25 k0_pay5 R C) k0_pay26 A B (ix3 0 r f)
      = if dropped R C A B r then 0 else R (ix3 0 r f) := by
  unfold k0_pay6 k0_pay26 k0_pay22
  pointwise [pay24_apply, pay25_apply]
  rw [show Ideal.ofBits FTy.f32 1056964608#32 = half from rfl]
  refine if_congr ?_ rfl rfl
  unfold dropped
  simp only [exists_strip fun c => beatsIn R C r c ∧ half < kiou (rowOf R r) (colOf C c)]
  simp only [lt_max_iff, half_lt_fold, half_lt_ite, or_assoc]
-- ==== Proof.KernelTrip.lean ====
module

public import proofs.«01_k».proof.Proof.Payload
public import Idealize.ShloMosaic.Lib.WritesUnit

@[expose] public section

set_option maxRecDepth 16384

noncomputable section

namespace Cert.NmsIdeal

open Cert.KernelIdeal Cert.KernelIdeal.Gen
open Idealize.ShloMosaic Idealize.ShloMosaic.TcCoe

section Blocks

variable {κ : Kind} {sp : Space} {e : EltTy} {a b : ℕ}

/-- Loading block `n` of a buffer of five blocks reads the buffer's entries of that block. -/
theorem block_read {Val : EltTy → Type} (v : View sig κ sp ⟨3, ![5, a, b]⟩ e) (f : v.ty.Contents Val) (off : Fin 3 → ℕ)
    (inb : ∀ x : Fin 3, off x + (![1, a, b] : Fin 3 → ℕ) x ≤ (![5, a, b] : Fin 3 → ℕ) x) (n : Fin 5) (ho : off = ![n.val, 0, 0])
    (r : Fin a) (l : Fin b) :
    v.readAt Val (Rect.unit (s := ⟨3, ![5, a, b]⟩) off ![1, a, b] inb).toLoadRect f (ix3 (n0 := 1) 0 r l) = v.read Val f (ix3 n r l) := by
  subst ho
  rw [View.readAt_apply]
  refine congrArg (v.read Val f) (funext fun x => Fin.ext ?_)
  match x with
  | ⟨0, _⟩ => show n.val + 1 * 0 = n.val; omega
  | ⟨1, _⟩ => show 0 + 1 * r.val = r.val; omega
  | ⟨2, _⟩ => show 0 + 1 * l.val = l.val; omega

/-- Storing block `n` of a buffer of five blocks replaces that block's entries and leaves the others. -/
theorem block_write {Val : EltTy → Type} (v : View sig κ sp ⟨3, ![5, a, b]⟩ e) (f : v.ty.Contents Val) (off : Fin 3 → ℕ)
    (inb : ∀ x : Fin 3, off x + (![1, a, b] : Fin 3 → ℕ) x ≤ (![5, a, b] : Fin 3 → ℕ) x) (n : Fin 5) (ho : off = ![n.val, 0, 0])
    (w : (⟨3, ![1, a, b]⟩ : Shape).Idx → Val e) (L : List (View.Piece Val ⟨3, ![5, a, b]⟩ e))
    (m : Fin 5) (r : Fin a) (l : Fin b) :
    v.read Val (v.writes Val f (⟨Rect.unit (s := ⟨3, ![5, a, b]⟩) off ![1, a, b] inb, w⟩ :: L)) (ix3 m r l)
      = if m = n then w (ix3 0 r l) else v.read Val (v.writes Val f L) (ix3 m r l) := by
  by_cases h : m = n
  · subst h
    rw [if_pos rfl]
    refine View.read_writes_cons_unit_of_mem v f inb w L _ (ix3 (n0 := 1) 0 r l) ho ?_
    intro x
    match x with
    | ⟨0, _⟩ => show m.val = m.val + 0; omega
    | ⟨1, _⟩ => show r.val = 0 + r.val; omega
    | ⟨2, _⟩ => show l.val = 0 + l.val; omega
  · rw [if_neg h]
    refine View.read_writes_cons_unit_of_not_mem v f inb w L _ ho (0 : Fin 3) ?_
    show m.val < n.val ∨ n.val + 1 ≤ m.val
    have : m.val ≠ n.val := fun e => h (Fin.ext e)
    omega

/-- Two block stores in a row, each of which raises its block over the threshold where a condition holds: afterwards an
    entry is over the threshold when it was, or when the condition of a store to its block holds. -/
theorem two_writes (v : View sig κ sp ⟨3, ![5, a, b]⟩ .f32) (f : v.ty.Contents (Elt Ideal)) (o1 o2 : Fin 3 → ℕ)
    (inb1 : ∀ x : Fin 3, o1 x + (![1, a, b] : Fin 3 → ℕ) x ≤ (![5, a, b] : Fin 3 → ℕ) x)
    (inb2 : ∀ x : Fin 3, o2 x + (![1, a, b] : Fin 3 → ℕ) x ≤ (![5, a, b] : Fin 3 → ℕ) x)
    (n1 n2 : Fin 5) (e1 : o1 = ![n1.val, 0, 0]) (e2 : o2 = ![n2.val, 0, 0])
    (P1 P2 : Vec Ideal (⟨3, ![1, a, b]⟩ : Shape) .f32) (Q1 Q2 : Fin a → Fin b → Prop)
    (h1 : ∀ r l, half < P1 (ix3 0 r l) ↔
      half < v.readAt (Elt Ideal) (Rect.unit (s := ⟨3, ![5, a, b]⟩) o1 ![1, a, b] inb1).toLoadRect f (ix3 (n0 := 1) 0 r l) ∨ Q1 r l)
    (h2 : ∀ r l, half < P2 (ix3 0 r l) ↔
      half < v.readAt (Elt Ideal) (Rect.unit (s := ⟨3, ![5, a, b]⟩) o2 ![1, a, b] inb2).toLoadRect
        (v.writes (Elt Ideal) f [⟨Rect.unit (s := ⟨3, ![5, a, b]⟩) o1 ![1, a, b] inb1, P1⟩]) (ix3 (n0 := 1) 0 r l) ∨ Q2 r l)
    (m : Fin 5) (r : Fin a) (l : Fin b) :
    half < v.read (Elt Ideal) (v.writes (Elt Ideal) f [⟨Rect.unit (s := ⟨3, ![5, a, b]⟩) o2 ![1, a, b] inb2, P2⟩,
        ⟨Rect.unit (s := ⟨3, ![5, a, b]⟩) o1 ![1, a, b] inb1, P1⟩]) (ix3 m r l)
      ↔ half < v.read (Elt Ideal) f (ix3 m r l) ∨ (m = n1 ∧ Q1 r l) ∨ (m = n2 ∧ Q2 r l) := by
  have first : ∀ m' : Fin 5, half < v.read (Elt Ideal)
        (v.writes (Elt Ideal) f [⟨Rect.unit (s := ⟨3, ![5, a, b]⟩) o1 ![1, a, b] inb1, P1⟩]) (ix3 m' r l)
      ↔ half < v.read (Elt Ideal) f (ix3 m' r l) ∨ (m' = n1 ∧ Q1 r l) := by
    intro m'
    rw [block_write v f o1 inb1 n1 e1 P1 [] m' r l]
    by_cases hm : m' = n1
    · subst hm
      rw [if_pos rfl, h1, block_read v f o1 inb1 m' e1 r l]
      simp
    · rw [if_neg hm]
      simp only [hm, false_and, or_false]
      rfl
  rw [block_write v f o2 inb2 n2 e2 P2 _ m r l]
  by_cases hm : m = n2
  · subst hm
    rw [if_pos rfl, h2, block_read v _ o2 inb2 m e2 r l, first]
    simp [or_assoc]
  · rw [if_neg hm, first]
    simp [hm]

end Blocks

/-- Box `r` of block `n` of the array of boxes stored one box per row. -/
def brow (X : S5x1024x8.Idx → EReal) (n : Fin 5) (r : Fin 1024) : Fin 8 → EReal := fun j => X (ix3 n r j)

/-- Box `c` of block `n` of the array of boxes stored one box per column. -/
def bcol (X : S5x8x1024.Idx → EReal) (n : Fin 5) (c : Fin 1024) : Fin 8 → EReal := fun j => X (ix3 n j c)

/-- Some box of block `lo` in lane `l` has at least the score of box `r` of block `hi`, and overlaps it. -/
def pairRow (X : S5x1024x8.Idx → EReal) (Y : S5x8x1024.Idx → EReal) (hi lo : Fin 5) (r : Fin 1024) (l : Fin 128) : Prop :=
  ∃ s : Fin 8, brow X hi r 4 ≤ bcol Y lo (strip s l) 4 ∧ half < kiou (brow X hi r) (bcol Y lo (strip s l))

/-- Some box of block `hi` has more than the score of box `c` of block `lo`, and overlaps it. -/
def pairCol (X : S5x1024x8.Idx → EReal) (Y : S5x8x1024.Idx → EReal) (hi lo : Fin 5) (c : Fin 1024) : Prop :=
  ∃ r : Fin 1024, ¬(brow X hi r 4 ≤ bcol Y lo c 4) ∧ half < kiou (brow X hi r) (bcol Y lo c)

section Trip

variable (𝒱 : Variants) (c : Dev nD) (bd : Option 𝒱.V)
  (arg0 : Memref sig .tc .smem S5x2x2 .i32) (harg0 : arg0.IsWhole) (arg1 : Memref sig .tc .vmem S5x1024x8 .f32) (harg1 : arg1.IsWhole)
  (arg2 : Memref sig .tc .vmem S5x8x1024 .f32) (harg2 : arg2.IsWhole) (arg3 : Memref sig .tc .vmem S5x1024x8 .f32) (harg3 : arg3.IsWhole)
  (arg4 : Memref sig .tc .vmem S5x1024x128 .f32) (harg4 : arg4.IsWhole) (arg5 : Memref sig .tc .vmem S5x1x1024 .f32) (harg5 : arg5.IsWhole)
  (X_arg0 : BufTy.Contents (Elt Ideal) arg0.view.ty) (X_arg1 : BufTy.Contents (Elt Ideal) arg1.view.ty)
  (X_arg2 : BufTy.Contents (Elt Ideal) arg2.view.ty)

/-- The box a row block load gives at row `r`. -/
theorem rowOf_load (off : Fin 3 → ℕ) (inb) (n : Fin 5) (ho : off = ![n.val, 0, 0]) (r : Fin 1024) :
    rowOf (arg1.view.readAt (Elt Ideal) (Rect.unit (s := S5x1024x8) off S1x1024x8.size inb).toLoadRect X_arg1) r
      = brow (arg1.view.read (Elt Ideal) X_arg1) n r :=
  funext fun j => block_read arg1.view X_arg1 off inb n ho r j

/-- The box a column block load gives at column `k`. -/
theorem colOf_load (off : Fin 3 → ℕ) (inb) (n : Fin 5) (ho : off = ![n.val, 0, 0]) (k : Fin 1024) :
    colOf (arg2.view.readAt (Elt Ideal) (Rect.unit (s := S5x8x1024) off S1x8x1024.size inb).toLoadRect X_arg2) k
      = bcol (arg2.view.read (Elt Ideal) X_arg2) n k :=
  funext fun j => block_read arg2.view X_arg2 off inb n ho j k

/-- The row step of the first pair, on the blocks loaded. -/
theorem rowStep1_load (o3 : Fin 3 → ℕ) (inb3) (o4 : Fin 3 → ℕ) (inb4) (hi lo : Fin 5) (e3 : o3 = ![hi.val, 0, 0]) (e4 : o4 = ![lo.val, 0, 0])
    (A : Vec Ideal S1x1024x128 .f32) (r : Fin 1024) (l : Fin 128) :
    half < k0_pay13 (F := Ideal) (k0_pay9 (arg1.view.readAt (Elt Ideal) (Rect.unit (s := S5x1024x8) o3 S1x1024x8.size inb3).toLoadRect X_arg1)) (k0_pay10 (arg2.view.readAt (Elt Ideal) (Rect.unit (s := S5x8x1024) o4 S1x8x1024.size inb4).toLoadRect X_arg2)) (k0_pay11 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) A (ix3 0 r l)
      ↔ half < A (ix3 0 r l) ∨ pairRow (arg1.view.read (Elt Ideal) X_arg1) (arg2.view.read (Elt Ideal) X_arg2) hi lo r l := by
  refine (rowStep1 _ _ A _ _).trans (or_congr Iff.rfl ?_)
  unfold pairRow geBlocks
  simp only [rowOf_load arg1 X_arg1 o3 inb3 hi e3, colOf_load arg2 X_arg2 o4 inb4 lo e4]

/-- The row step of the second pair, on the blocks loaded. -/
theorem rowStep2_load (o3 : Fin 3 → ℕ) (inb3) (o4 : Fin 3 → ℕ) (inb4) (hi lo : Fin 5) (e3 : o3 = ![hi.val, 0, 0]) (e4 : o4 = ![lo.val, 0, 0])
    (A : Vec Ideal S1x1024x128 .f32) (r : Fin 1024) (l : Fin 128) :
    half < k0_pay3 (F := Ideal) (k0_pay19 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) (k0_pay20 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) (k0_pay21 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) A (ix3 0 r l)
      ↔ half < A (ix3 0 r l) ∨ pairRow (arg1.view.read (Elt Ideal) X_arg1) (arg2.view.read (Elt Ideal) X_arg2) hi lo r l := by
  refine (rowStep2 _ _ A _ _).trans (or_congr Iff.rfl ?_)
  unfold pairRow geBlocks
  simp only [rowOf_load arg1 X_arg1 o3 inb3 hi e3, colOf_load arg2 X_arg2 o4 inb4 lo e4]

/-- The column step of the first pair, on the blocks loaded. -/
theorem colStep1_load (o3 : Fin 3 → ℕ) (inb3) (o4 : Fin 3 → ℕ) (inb4) (hi lo : Fin 5) (e3 : o3 = ![hi.val, 0, 0]) (e4 : o4 = ![lo.val, 0, 0])
    (A : Vec Ideal S1x1x1024 .f32) (k : Fin 1024) :
    half < k0_pay14 (F := Ideal) (k0_pay9 (arg1.view.readAt (Elt Ideal) (Rect.unit (s := S5x1024x8) o3 S1x1024x8.size inb3).toLoadRect X_arg1)) (k0_pay10 (arg2.view.readAt (Elt Ideal) (Rect.unit (s := S5x8x1024) o4 S1x8x1024.size inb4).toLoadRect X_arg2)) (k0_pay11 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) A (ix3 0 0 k)
      ↔ half < A (ix3 0 0 k) ∨ pairCol (arg1.view.read (Elt Ideal) X_arg1) (arg2.view.read (Elt Ideal) X_arg2) hi lo k := by
  refine (colStep1 _ _ A _ ).trans (or_congr Iff.rfl ?_)
  unfold pairCol geBlocks
  simp only [rowOf_load arg1 X_arg1 o3 inb3 hi e3, colOf_load arg2 X_arg2 o4 inb4 lo e4]

/-- The column step of the second pair, on the blocks loaded. -/
theorem colStep2_load (o3 : Fin 3 → ℕ) (inb3) (o4 : Fin 3 → ℕ) (inb4) (hi lo : Fin 5) (e3 : o3 = ![hi.val, 0, 0]) (e4 : o4 = ![lo.val, 0, 0])
    (A : Vec Ideal S1x1x1024 .f32) (k : Fin 1024) :
    half < k0_pay4 (F := Ideal) (k0_pay17 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) (k0_pay18 (arg1.view.readAt (Elt Ideal) (Rect.unit (s := S5x1024x8) o3 S1x1024x8.size inb3).toLoadRect X_arg1) (arg2.view.readAt (Elt Ideal) (Rect.unit (s := S5x8x1024) o4 S1x8x1024.size inb4).toLoadRect X_arg2)) A (ix3 0 0 k)
      ↔ half < A (ix3 0 0 k) ∨ pairCol (arg1.view.read (Elt Ideal) X_arg1) (arg2.view.read (Elt Ideal) X_arg2) hi lo k := by
  refine (colStep2 _ _ A _ ).trans (or_congr Iff.rfl ?_)
  unfold pairCol geBlocks
  simp only [rowOf_load arg1 X_arg1 o3 inb3 hi e3, colOf_load arg2 X_arg2 o4 inb4 lo e4]

/-- The offsets a block number `v` gives. -/
theorem off_word (v : BitVec 32) (n : Fin 5) (h : v.toNat = n.val) :
    k0_off3 v = ![n.val, 0, 0] ∧ k0_off4 v = ![n.val, 0, 0] ∧ k0_off5 v = ![n.val, 0, 0] ∧ k0_off6 v = ![n.val, 0, 0]
      ∧ k0_off9 v = ![n.val, 0, 0] ∧ k0_off10 v = ![n.val, 0, 0] ∧ k0_off11 v = ![n.val, 0, 0] ∧ k0_off12 v = ![n.val, 0, 0] := by
  unfold k0_off3 k0_off4 k0_off5 k0_off6 k0_off9 k0_off10 k0_off11 k0_off12
  simp [Scalar.indexCast, h]

variable (k : Fin k0_t1_loop.trips)

/-- The schedule's word at trip `k`, pair `i`, side `j`. -/
def word (i j : Fin 2) : BitVec 32 := arg0.view.read (Elt Ideal) X_arg0 (ix3 (n0 := 5) ⟨k.val, k.isLt⟩ i j)

/-- One word of the schedule, loaded at explicit coordinates. -/
theorem word_load (off : Fin 3 → ℕ) (inb) (hp) (i j : Fin 2) (ho : off = ![k.val, i.val, j.val]) :
    arg0.view.readAt (Elt Ideal) (Rect.unit (s := S5x2x2) off S1x1x1.size inb).toLoadRect X_arg0 (Shape.Idx.first hp)
      = word arg0 X_arg0 k i j := by
  subst ho
  rw [View.readAt_apply]
  refine congrArg (arg0.view.read (Elt Ideal) X_arg0) (funext fun x => Fin.ext ?_)
  match x with
  | ⟨0, _⟩ => show k.val + 1 * 0 = k.val; omega
  | ⟨1, _⟩ => show i.val + 1 * 0 = i.val; omega
  | ⟨2, _⟩ => show j.val + 1 * 0 = j.val; omega

/-- Where trip `k` reads its two pairs from the schedule. -/
theorem off_table : k0_off1 k = ![k.val, 0, 0] ∧ k0_off2 k = ![k.val, 0, 1] ∧ k0_off7 k = ![k.val, 1, 0] ∧ k0_off8 k = ![k.val, 1, 1] := by
  revert k
  decide

/-- One trip of the pair loop on the row accumulator. -/
theorem trip_row (w1 w2 w3 w4) (f4 : BufTy.Contents (Elt Ideal) arg4.view.ty) (f5 : BufTy.Contents (Elt Ideal) arg5.view.ty)
    (p : Fin 2 → Fin 2 → Fin 5) (hp : ∀ i j, (word arg0 X_arg0 k i j).toNat = (p i j).val)
    (m : Fin 5) (r : Fin 1024) (l : Fin 128) :
    half < arg4.view.read (Elt Ideal) (arg4.view.writes (Elt Ideal) f4
        (tripL_k0_t1 (F := Ideal) 𝒱 c bd arg0 harg0 arg1 harg1 arg2 harg2 arg3 harg3 arg4 harg4 arg5 harg5
          X_arg0 X_arg1 X_arg2 k w1 w2 w3 w4 f4 f5).1) (ix3 m r l)
      ↔ half < arg4.view.read (Elt Ideal) f4 (ix3 m r l) ∨
        (m = p 0 0 ∧ pairRow (arg1.view.read (Elt Ideal) X_arg1) (arg2.view.read (Elt Ideal) X_arg2) (p 0 0) (p 0 1) r l) ∨
        (m = p 1 0 ∧ pairRow (arg1.view.read (Elt Ideal) X_arg1) (arg2.view.read (Elt Ideal) X_arg2) (p 1 0) (p 1 1) r l) := by
  obtain ⟨t1, t2, t3, t4⟩ := off_table k
  have e1 := fun inb h => (congrArg BitVec.toNat (word_load arg0 X_arg0 k (k0_off1 k) inb h 0 0 t1)).trans (hp 0 0)
  have e2 := fun inb h => (congrArg BitVec.toNat (word_load arg0 X_arg0 k (k0_off2 k) inb h 0 1 t2)).trans (hp 0 1)
  have e3 := fun inb h => (congrArg BitVec.toNat (word_load arg0 X_arg0 k (k0_off7 k) inb h 1 0 t3)).trans (hp 1 0)
  have e4 := fun inb h => (congrArg BitVec.toNat (word_load arg0 X_arg0 k (k0_off8 k) inb h 1 1 t4)).trans (hp 1 1)
  unfold tripL_k0_t1 trip_k0_t1
  dsimp only
  refine two_writes arg4.view f4 _ _ _ _ (p 0 0) (p 1 0) ?_ ?_ _ _
    (pairRow (arg1.view.read (Elt Ideal) X_arg1) (arg2.view.read (Elt Ideal) X_arg2) (p 0 0) (p 0 1))
    (pairRow (arg1.view.read (Elt Ideal) X_arg1) (arg2.view.read (Elt Ideal) X_arg2) (p 1 0) (p 1 1)) ?_ ?_ m r l
  · exact (off_word _ (p 0 0) (e1 _ _)).2.2.1
  · exact (off_word _ (p 1 0) (e3 _ _)).2.2.2.2.2.2.1
  · exact rowStep1_load arg1 arg2 X_arg1 X_arg2 _ _ _ _ (p 0 0) (p 0 1) (off_word _ _ (e1 _ _)).1 (off_word _ _ (e2 _ _)).2.1 _
  · exact rowStep2_load arg1 arg2 X_arg1 X_arg2 _ _ _ _ (p 1 0) (p 1 1) (off_word _ _ (e3 _ _)).2.2.2.2.1 (off_word _ _ (e4 _ _)).2.2.2.2.2.1 _

/-- One trip of the pair loop on the column accumulator. -/
theorem trip_col (w1 w2 w3 w4) (f4 : BufTy.Contents (Elt Ideal) arg4.view.ty) (f5 : BufTy.Contents (Elt Ideal) arg5.view.ty)
    (p : Fin 2 → Fin 2 → Fin 5) (hp : ∀ i j, (word arg0 X_arg0 k i j).toNat = (p i j).val)
    (m : Fin 5) (l : Fin 1024) :
    half < arg5.view.read (Elt Ideal) (arg5.view.writes (Elt Ideal) f5
        (tripL_k0_t1 (F := Ideal) 𝒱 c bd arg0 harg0 arg1 harg1 arg2 harg2 arg3 harg3 arg4 harg4 arg5 harg5
          X_arg0 X_arg1 X_arg2 k w1 w2 w3 w4 f4 f5).2) (ix3 m 0 l)
      ↔ half < arg5.view.read (Elt Ideal) f5 (ix3 m 0 l) ∨
        (m = p 0 1 ∧ pairCol (arg1.view.read (Elt Ideal) X_arg1) (arg2.view.read (Elt Ideal) X_arg2) (p 0 0) (p 0 1) l) ∨
        (m = p 1 1 ∧ pairCol (arg1.view.read (Elt Ideal) X_arg1) (arg2.view.read (Elt Ideal) X_arg2) (p 1 0) (p 1 1) l) := by
  obtain ⟨t1, t2, t3, t4⟩ := off_table k
  have e1 := fun inb h => (congrArg BitVec.toNat (word_load arg0 X_arg0 k (k0_off1 k) inb h 0 0 t1)).trans (hp 0 0)
  have e2 := fun inb h => (congrArg BitVec.toNat (word_load arg0 X_arg0 k (k0_off2 k) inb h 0 1 t2)).trans (hp 0 1)
  have e3 := fun inb h => (congrArg BitVec.toNat (word_load arg0 X_arg0 k (k0_off7 k) inb h 1 0 t3)).trans (hp 1 0)
  have e4 := fun inb h => (congrArg BitVec.toNat (word_load arg0 X_arg0 k (k0_off8 k) inb h 1 1 t4)).trans (hp 1 1)
  unfold tripL_k0_t1 trip_k0_t1
  dsimp only
  have z : ∀ r : Fin 1, r = 0 := fun r => Subsingleton.elim _ _
  refine two_writes arg5.view f5 _ _ _ _ (p 0 1) (p 1 1) ?_ ?_ _ _
    (fun _ => pairCol (arg1.view.read (Elt Ideal) X_arg1) (arg2.view.read (Elt Ideal) X_arg2) (p 0 0) (p 0 1))
    (fun _ => pairCol (arg1.view.read (Elt Ideal) X_arg1) (arg2.view.read (Elt Ideal) X_arg2) (p 1 0) (p 1 1)) ?_ ?_ m 0 l
  · exact (off_word _ (p 0 1) (e2 _ _)).2.2.2.1
  · exact (off_word _ (p 1 1) (e4 _ _)).2.2.2.2.2.2.2
  · intro r
    rw [z r]
    exact colStep1_load arg1 arg2 X_arg1 X_arg2 _ _ _ _ (p 0 0) (p 0 1) (off_word _ _ (e1 _ _)).1 (off_word _ _ (e2 _ _)).2.1 _
  · intro r
    rw [z r]
    exact colStep2_load arg1 arg2 X_arg1 X_arg2 _ _ _ _ (p 1 0) (p 1 1) (off_word _ _ (e3 _ _)).2.2.2.2.1 (off_word _ _ (e4 _ _)).2.2.2.2.2.1 _

end Trip

end Cert.NmsIdeal

end
-- ==== Proof.KernelLoops.lean ====
module

public import proofs.«01_k».proof.Proof.KernelTrip

@[expose] public section

set_option maxRecDepth 16384

noncomputable section

namespace Cert.NmsIdeal

open Cert.KernelIdeal Cert.KernelIdeal.Gen
open Idealize.ShloMosaic Idealize.ShloMosaic.TcCoe

/-- Some box of block `n` in lane `l` beats box `r` of the same block and overlaps it. -/
def inBlock (X : S5x1024x8.Idx → EReal) (Y : S5x8x1024.Idx → EReal) (n : Fin 5) (r : Fin 1024) (l : Fin 128) : Prop :=
  ∃ s : Fin 8, (brow X n r 4 < bcol Y n (strip s l) 4 ∨ bcol Y n (strip s l) 4 = brow X n r 4 ∧ strip s l < r)
    ∧ half < kiou (brow X n r) (bcol Y n (strip s l))

/-- The last phase drops box `r` of block `n`, given the two accumulators. -/
def dropLast (X : S5x1024x8.Idx → EReal) (Y : S5x8x1024.Idx → EReal) (A : S5x1024x128.Idx → EReal) (B : S5x1x1024.Idx → EReal)
    (n : Fin 5) (r : Fin 1024) : Prop :=
  (∃ l : Fin 128, half < A (ix3 n r l) ∨ inBlock X Y n r l) ∨ half < B (ix3 n 0 r)

variable (𝒱 : Variants) (c : Dev nD) (bd : Option 𝒱.V)
  (arg0 : Memref sig .tc .smem S5x2x2 .i32) (harg0 : arg0.IsWhole) (arg1 : Memref sig .tc .vmem S5x1024x8 .f32) (harg1 : arg1.IsWhole)
  (arg2 : Memref sig .tc .vmem S5x8x1024 .f32) (harg2 : arg2.IsWhole) (arg3 : Memref sig .tc .vmem S5x1024x8 .f32) (harg3 : arg3.IsWhole)
  (arg4 : Memref sig .tc .vmem S5x1024x128 .f32) (harg4 : arg4.IsWhole) (arg5 : Memref sig .tc .vmem S5x1x1024 .f32) (harg5 : arg5.IsWhole)
  (X_arg0 : BufTy.Contents (Elt Ideal) arg0.view.ty) (X_arg1 : BufTy.Contents (Elt Ideal) arg1.view.ty)
  (X_arg2 : BufTy.Contents (Elt Ideal) arg2.view.ty)

section Pairs

variable (G4 : BufTy.Contents (Elt Ideal) arg4.view.ty) (G5 : BufTy.Contents (Elt Ideal) arg5.view.ty)
  (p : Fin 5 → Fin 2 → Fin 2 → Fin 5)

/-- After the first `n` trips of the pair loop an entry of the row accumulator is over the threshold when it was at the
    start, or when a pair of those trips has its block as the first and finds it a suppressing box in that lane. -/
theorem pairs_row (w1 w2 w3 w4) (hp : ∀ (k : Fin k0_t1_loop.trips) i j, (word arg0 X_arg0 k i j).toNat = (p ⟨k.val, k.isLt⟩ i j).val)
    (m : Fin 5) (r : Fin 1024) (l : Fin 128) : ∀ n : ℕ, n ≤ 5 →
    (half < arg4.view.read (Elt Ideal) (arg4.view.writes (Elt Ideal) G4
        (pb_k0_t1 (F := Ideal) 𝒱 c bd arg0 harg0 arg1 harg1 arg2 harg2 arg3 harg3 arg4 harg4 arg5 harg5
          X_arg0 X_arg1 X_arg2 G4 G5 w1 w2 w3 w4 n).1) (ix3 m r l)
      ↔ half < arg4.view.read (Elt Ideal) G4 (ix3 m r l) ∨ ∃ q : Fin 5, q.val < n ∧ ∃ i : Fin 2, m = p q i 0 ∧
          pairRow (arg1.view.read (Elt Ideal) X_arg1) (arg2.view.read (Elt Ideal) X_arg2) (p q i 0) (p q i 1) r l)
  | 0, _ => by
    simp only [Nat.not_lt_zero, false_and, exists_false, or_false]
    rfl
  | n + 1, hn => by
    have hlt : n < k0_t1_loop.trips := hn
    rw [pb_k0_t1_succ 𝒱 c bd arg0 harg0 arg1 harg1 arg2 harg2 arg3 harg3 arg4 harg4 arg5 harg5
      X_arg0 X_arg1 X_arg2 G4 G5 w1 w2 w3 w4 ⟨n, hlt⟩]
    dsimp only
    rw [View.writes_append, trip_row 𝒱 c bd arg0 harg0 arg1 harg1 arg2 harg2 arg3 harg3 arg4 harg4 arg5 harg5
      X_arg0 X_arg1 X_arg2 ⟨n, hlt⟩ _ _ _ _ _ _ (p ⟨n, hn⟩) (hp ⟨n, hlt⟩) m r l, pairs_row w1 w2 w3 w4 hp m r l n (by omega)]
    rw [or_assoc]
    refine or_congr Iff.rfl ?_
    constructor
    · rintro (⟨q, hq, h⟩ | h | h)
      · exact ⟨q, by omega, h⟩
      · exact ⟨⟨n, hn⟩, Nat.lt_succ_self n, 0, h⟩
      · exact ⟨⟨n, hn⟩, Nat.lt_succ_self n, 1, h⟩
    · rintro ⟨q, hq, i, h⟩
      rcases Nat.lt_succ_iff_lt_or_eq.1 hq with h' | h'
      · exact Or.inl ⟨q, h', i, h⟩
      · have e : q = ⟨n, hn⟩ := Fin.ext h'
        subst e
        match i, h with
        | 0, h => exact Or.inr (Or.inl h)
        | 1, h => exact Or.inr (Or.inr h)

/-- The same of the column accumulator and the second block of a pair. -/
theorem pairs_col (w1 w2 w3 w4) (hp : ∀ (k : Fin k0_t1_loop.trips) i j, (word arg0 X_arg0 k i j).toNat = (p ⟨k.val, k.isLt⟩ i j).val)
    (m : Fin 5) (l : Fin 1024) : ∀ n : ℕ, n ≤ 5 →
    (half < arg5.view.read (Elt Ideal) (arg5.view.writes (Elt Ideal) G5
        (pb_k0_t1 (F := Ideal) 𝒱 c bd arg0 harg0 arg1 harg1 arg2 harg2 arg3 harg3 arg4 harg4 arg5 harg5
          X_arg0 X_arg1 X_arg2 G4 G5 w1 w2 w3 w4 n).2) (ix3 m 0 l)
      ↔ half < arg5.view.read (Elt Ideal) G5 (ix3 m 0 l) ∨ ∃ q : Fin 5, q.val < n ∧ ∃ i : Fin 2, m = p q i 1 ∧
          pairCol (arg1.view.read (Elt Ideal) X_arg1) (arg2.view.read (Elt Ideal) X_arg2) (p q i 0) (p q i 1) l)
  | 0, _ => by
    simp only [Nat.not_lt_zero, false_and, exists_false, or_false]
    rfl
  | n + 1, hn => by
    have hlt : n < k0_t1_loop.trips := hn
    rw [pb_k0_t1_succ 𝒱 c bd arg0 harg0 arg1 harg1 arg2 harg2 arg3 harg3 arg4 harg4 arg5 harg5
      X_arg0 X_arg1 X_arg2 G4 G5 w1 w2 w3 w4 ⟨n, hlt⟩]
    dsimp only
    rw [View.writes_append, trip_col 𝒱 c bd arg0 harg0 arg1 harg1 arg2 harg2 arg3 harg3 arg4 harg4 arg5 harg5
      X_arg0 X_arg1 X_arg2 ⟨n, hlt⟩ _ _ _ _ _ _ (p ⟨n, hn⟩) (hp ⟨n, hlt⟩) m l, pairs_col w1 w2 w3 w4 hp m l n (by omega)]
    rw [or_assoc]
    refine or_congr Iff.rfl ?_
    constructor
    · rintro (⟨q, hq, h⟩ | h | h)
      · exact ⟨q, by omega, h⟩
      · exact ⟨⟨n, hn⟩, Nat.lt_succ_self n, 0, h⟩
      · exact ⟨⟨n, hn⟩, Nat.lt_succ_self n, 1, h⟩
    · rintro ⟨q, hq, i, h⟩
      rcases Nat.lt_succ_iff_lt_or_eq.1 hq with h' | h'
      · exact Or.inl ⟨q, h', i, h⟩
      · have e : q = ⟨n, hn⟩ := Fin.ext h'
        subst e
        match i, h with
        | 0, h => exact Or.inr (Or.inl h)
        | 1, h => exact Or.inr (Or.inr h)

end Pairs

section Last

variable (X_arg4 : BufTy.Contents (Elt Ideal) arg4.view.ty) (X_arg5 : BufTy.Contents (Elt Ideal) arg5.view.ty)

/-- The offsets of the last loop's loads and stores: the trip's own block. -/
theorem off_last (k : Fin k0_t2_loop.trips) : k0_off13 k = ![k.val, 0, 0] ∧ k0_off14 k = ![k.val, 0, 0]
    ∧ k0_off15 k = ![k.val, 0, 0] ∧ k0_off16 k = ![k.val, 0, 0] := by
  revert k
  decide

/-- The last phase's condition on the blocks it loads is the condition on the arrays, at that block. -/
theorem dropped_load (o1 : Fin 3 → ℕ) (inb1) (o2 : Fin 3 → ℕ) (inb2) (o4 : Fin 3 → ℕ) (inb4) (o5 : Fin 3 → ℕ) (inb5) (n : Fin 5)
    (e1 : o1 = ![n.val, 0, 0]) (e2 : o2 = ![n.val, 0, 0]) (e4 : o4 = ![n.val, 0, 0]) (e5 : o5 = ![n.val, 0, 0]) (r : Fin 1024) :
    dropped (arg1.view.readAt (Elt Ideal) (Rect.unit (s := S5x1024x8) o1 S1x1024x8.size inb1).toLoadRect X_arg1)
      (arg2.view.readAt (Elt Ideal) (Rect.unit (s := S5x8x1024) o2 S1x8x1024.size inb2).toLoadRect X_arg2)
      (arg4.view.readAt (Elt Ideal) (Rect.unit (s := S5x1024x128) o4 S1x1024x128.size inb4).toLoadRect X_arg4)
      (arg5.view.readAt (Elt Ideal) (Rect.unit (s := S5x1x1024) o5 S1x1x1024.size inb5).toLoadRect X_arg5) r
    ↔ dropLast (arg1.view.read (Elt Ideal) X_arg1) (arg2.view.read (Elt Ideal) X_arg2)
        (arg4.view.read (Elt Ideal) X_arg4) (arg5.view.read (Elt Ideal) X_arg5) n r := by
  unfold dropped dropLast inBlock beatsIn
  rw [rowOf_load arg1 X_arg1 o1 inb1 n e1]
  have hA : ∀ l, arg4.view.readAt (Elt Ideal) (Rect.unit (s := S5x1024x128) o4 S1x1024x128.size inb4).toLoadRect X_arg4 (ix3 (n0 := 1) 0 r l)
      = arg4.view.read (Elt Ideal) X_arg4 (ix3 n r l) := fun l => block_read arg4.view X_arg4 o4 inb4 n e4 r l
  have hB : arg5.view.readAt (Elt Ideal) (Rect.unit (s := S5x1x1024) o5 S1x1x1024.size inb5).toLoadRect X_arg5 (ix3 (n0 := 1) 0 0 r)
      = arg5.view.read (Elt Ideal) X_arg5 (ix3 n 0 r) := block_read arg5.view X_arg5 o5 inb5 n e5 0 r
  refine or_congr (exists_congr fun l => or_congr ?_ (exists_congr fun s => ?_)) ?_
  · exact iff_of_eq (congrArg (half < ·) (hA l))
  · rw [colOf_load arg2 X_arg2 o2 inb2 n e2]
  · exact iff_of_eq (congrArg (half < ·) hB)

open Classical in
/-- After the first `n` trips of the last loop, a block below `n` of the output holds its boxes, zeroed where dropped. -/
theorem last_rows {κ : Kind} {sp : Space} (v : View sig κ sp S5x1024x8 .f32) (G3 : v.ty.Contents (Elt Ideal)) (m : Fin 5) (r : Fin 1024) (f : Fin 8) : ∀ n : ℕ, n ≤ 5 → m.val < n →
    v.read (Elt Ideal) (v.writes (Elt Ideal) G3
        (pb_k0_t2 (F := Ideal) 𝒱 c bd arg0 harg0 arg1 harg1 arg2 harg2 arg3 harg3 arg4 harg4 arg5 harg5
          X_arg1 X_arg2 X_arg4 X_arg5 n)) (ix3 m r f)
      = if dropLast (arg1.view.read (Elt Ideal) X_arg1) (arg2.view.read (Elt Ideal) X_arg2)
            (arg4.view.read (Elt Ideal) X_arg4) (arg5.view.read (Elt Ideal) X_arg5) m r
        then 0 else arg1.view.read (Elt Ideal) X_arg1 (ix3 m r f)
  | 0, _, h => absurd h (Nat.not_lt_zero _)
  | n + 1, hn, hm => by
    have hlt : n < k0_t2_loop.trips := hn
    obtain ⟨o1, o2, o3, o4⟩ := off_last ⟨n, hlt⟩
    rw [pb_k0_t2_succ 𝒱 c bd arg0 harg0 arg1 harg1 arg2 harg2 arg3 harg3 arg4 harg4 arg5 harg5
      X_arg1 X_arg2 X_arg4 X_arg5 ⟨n, hlt⟩]
    unfold tripL_k0_t2 trip_k0_t2
    dsimp only
    rw [List.cons_append, List.nil_append]
    refine (block_write v G3 _ _ ⟨n, hn⟩ o1 _ _ m r f).trans ?_
    by_cases e : m = ⟨n, hn⟩
    · subst e
      rw [if_pos rfl]
      refine (lastStep _ _ _ _ r f).trans ?_
      refine if_congr ?_ rfl (block_read arg1.view X_arg1 _ _ _ o1 r f)
      exact dropped_load arg1 arg2 arg4 arg5 X_arg1 X_arg2 X_arg4 X_arg5 _ _ _ _ _ _ _ _ ⟨n, hn⟩ o1 o2 o3 o4 r
    · rw [if_neg e]
      exact last_rows v G3 m r f n (by omega) (by
        have : m.val ≠ n := fun h => e (Fin.ext h)
        omega)

end Last

end Cert.NmsIdeal

end
-- ==== Proof.KernelBody.lean ====
module

public import proofs.«01_k».proof.Proof.KernelLoops
public import Idealize.ShloMosaic.Lib.VecWindow

@[expose] public section

set_option maxRecDepth 16384

noncomputable section

namespace Cert.NmsIdeal

open Cert.KernelIdeal Cert.KernelIdeal.Gen
open Idealize.ShloMosaic Idealize.ShloMosaic.TcCoe

/-- The kernel drops box `r` of block `m` under this condition, for a schedule `p` of block pairs: a suppressing box is
    found in a pair where the block comes first, in the block itself, or in a pair where the block comes second. -/
def dropK (X : S5x1024x8.Idx → EReal) (Y : S5x8x1024.Idx → EReal) (p : Fin 5 → Fin 2 → Fin 2 → Fin 5) (m : Fin 5) (r : Fin 1024) :
    Prop :=
  (∃ l : Fin 128, (∃ q i, m = p q i 0 ∧ pairRow X Y (p q i 0) (p q i 1) r l) ∨ inBlock X Y m r l)
    ∨ ∃ q i, m = p q i 1 ∧ pairCol X Y (p q i 0) (p q i 1) r

/-- Nothing is over the threshold in the row accumulator once it is zeroed. -/
theorem zero_rows (v : View sig .tc .vmem S5x1024x128 .f32) (f : v.ty.Contents (Elt Ideal)) (inb) (i : S5x1024x128.Idx) :
    ¬ half < v.read (Elt Ideal) (v.writes (Elt Ideal) f
      [⟨Rect.unit (s := S5x1024x128) ![0, 0, 0] S5x1024x128.size inb, k0_pay1 (F := Ideal)⟩]) i := by
  rw [View.read_writes_full]
  have h : k0_pay1 (F := Ideal) i = 0 := by
    unfold k0_pay1
    rw [shapeCast_self]
    exact Ideal.ofBits_zero_f32
  show ¬ half < k0_pay1 (F := Ideal) i
  rw [h]
  exact not_lt.2 half_nonneg

/-- Nothing is over the threshold in the column accumulator once it is zeroed. -/
theorem zero_cols (v : View sig .tc .vmem S5x1x1024 .f32) (f : v.ty.Contents (Elt Ideal)) (inb) (i : S5x1x1024.Idx) :
    ¬ half < v.read (Elt Ideal) (v.writes (Elt Ideal) f
      [⟨Rect.unit (s := S5x1x1024) ![0, 0, 0] S5x1x1024.size inb, k0_pay2 (F := Ideal)⟩]) i := by
  rw [View.read_writes_full]
  have h : k0_pay2 (F := Ideal) i = 0 := by
    unfold k0_pay2
    rw [shapeCast_self]
    exact Ideal.ofBits_zero_f32
  show ¬ half < k0_pay2 (F := Ideal) i
  rw [h]
  exact not_lt.2 half_nonneg

open Classical in
/-- What the kernel body leaves in its output, from the schedule and the two arrays of boxes it is given. -/
theorem body_value (c : Dev nD)
    (arg0 : Memref sig .tc .smem S5x2x2 .i32) (harg0 : arg0.IsWhole) (arg1 : Memref sig .tc .vmem S5x1024x8 .f32) (harg1 : arg1.IsWhole)
    (arg2 : Memref sig .tc .vmem S5x8x1024 .f32) (harg2 : arg2.IsWhole) (arg3 : Memref sig .tc .vmem S5x1024x8 .f32) (harg3 : arg3.IsWhole)
    (arg4 : Memref sig .tc .vmem S5x1024x128 .f32) (harg4 : arg4.IsWhole) (arg5 : Memref sig .tc .vmem S5x1x1024 .f32) (harg5 : arg5.IsWhole)
    (x0 : Vec Ideal S5x2x2 .i32) (x1 : Vec Ideal S5x1024x8 .f32) (x2 : Vec Ideal S5x8x1024 .f32) (w1 w2 w3 w4)
    (p : Fin 5 → Fin 2 → Fin 2 → Fin 5) (hp : ∀ q i j, (x0 (ix3 q i j) : BitVec 32).toNat = (p q i j).val)
    (m : Fin 5) (r : Fin 1024) (f : Fin 8) :
    out0_A_3 (F := Ideal) c arg0 harg0 arg1 harg1 arg2 harg2 arg3 harg3 arg4 harg4 arg5 harg5 x0 x1 x2 w1 w2 w3 w4 (ix3 m r f)
      = if dropK x1 x2 p m r then 0 else x1 (ix3 m r f) := by
  unfold out0_A_3 kernelRun0_A
  dsimp only
  sl_unfold_words
  refine (last_rows Variants.none c none arg0 harg0 arg1 harg1 arg2 harg2 arg3 harg3 arg4 harg4 arg5 harg5
    _ _ _ _ VO0_3 _ m r f 5 le_rfl m.isLt).trans ?_
  rw [harg1.read_unread]
  refine if_congr ?_ rfl rfl
  rw [harg2.read_unread]
  unfold dropLast dropK
  rw [View.writes_append, View.writes_append]
  have hw : ∀ (k : Fin k0_t1_loop.trips) i j, (word arg0 (harg0.unread x0) k i j).toNat = (p ⟨k.val, k.isLt⟩ i j).val := by
    intro k i j
    unfold word
    rw [harg0.read_unread]
    exact hp _ i j
  refine or_congr (exists_congr fun l => or_congr ?_ Iff.rfl) ?_
  · refine (pairs_row Variants.none c none arg0 harg0 arg1 harg1 arg2 harg2 arg3 harg3 arg4 harg4 arg5 harg5
      _ _ _ _ _ p _ _ _ _ hw m r l 5 le_rfl).trans ?_
    rw [harg1.read_unread, harg2.read_unread]
    constructor
    · rintro (h | ⟨q, -, h⟩)
      · exact absurd h (zero_rows _ _ _ _)
      · exact ⟨q, h⟩
    · rintro ⟨q, h⟩
      exact Or.inr ⟨q, q.isLt, h⟩
  · refine (pairs_col Variants.none c none arg0 harg0 arg1 harg1 arg2 harg2 arg3 harg3 arg4 harg4 arg5 harg5
      _ _ _ _ _ p _ _ _ _ hw m r 5 le_rfl).trans ?_
    rw [harg1.read_unread, harg2.read_unread]
    constructor
    · rintro (h | ⟨q, -, h⟩)
      · exact absurd h (zero_cols _ _ _ _)
      · exact ⟨q, h⟩
    · rintro ⟨q, h⟩
      exact Or.inr ⟨q, q.isLt, h⟩

end Cert.NmsIdeal

end
-- ==== Proof.KernelValue.lean ====
module

public import proofs.«01_k».proof.Proof.KernelBody
public import proofs.«01_k».proof.Proof.HypsIdeal
public import Idealize.ShloMosaic.Lib.Pointwise
public import Idealize.ShloMosaic.Lib.Pipeline.Value

@[expose] public section

set_option maxRecDepth 16384

noncomputable section

namespace Cert.NmsIdeal

open Cert.KernelIdeal Cert.KernelIdeal.Gen
open Idealize.ShloMosaic Idealize.ShloMosaic.TcCoe

/-- Box `n` as eight numbers, from the array `B` of corners and the array `s` of scores: the corners, the score and zeros;
    past the last box, zeros only. -/
def box (B : S5000x4.Idx → EReal) (s : S5000.Idx → EReal) (n : ℕ) (f : Fin 8) : EReal :=
  if h : n < 5000 then
    if hf : f.val < 4 then B (ix2 ⟨n, h⟩ ⟨f.val, hf⟩) else if f.val = 4 then s (ix1 ⟨n, h⟩) else 0
  else 0

/-- The boxes in five blocks of 1024: the array the host hands the kernel. -/
def blocks (B : S5000x4.Idx → EReal) (s : S5000.Idx → EReal) : S5x1024x8.Idx → EReal :=
  shapeCast S5x1024x8 (pad S5120x8 ![0, 0] ![120, 3] ![0, 0]
    (concatenate S5000x5 1 [⟨S5000x4, B⟩, ⟨S5000x1, broadcastInDim S5000x1 ![0] bcast_S5000_S5000x1_0 s⟩] concatenates_S5000x4_S5000x1_S5000x5_d1)
    (sitofp (F := Ideal) .f32 (constantI S_ 32 0#32)) pads_S5000x5_S5120x8_01200_030 (by decide)) shapeCasts_S5120x8_S5x1024x8

/-- The integer zero, made a float, is zero. -/
theorem zero_word : (FloatOps.sitofp FTy.f32 0#32 : Ideal .f32) = (0 : EReal) := by
  show (((0#32 : BitVec 32).toInt : ℝ) : EReal) = 0
  simp

/-- The block array at block `b`, row `r`, is box `1024 b + r`. -/
theorem blocks_apply (B : S5000x4.Idx → EReal) (s : S5000.Idx → EReal) (b : Fin 5) (r : Fin 1024) (f : Fin 8) :
    blocks B s (ix3 b r f) = box B s (1024 * b.val + r.val) f := by
  unfold blocks box
  pointwise
  have e : b.val * 1024 + r.val = 1024 * b.val + r.val := by omega
  by_cases h : 1024 * b.val + r.val < 5000
  · by_cases h4 : f.val < 4
    · have h5 : f.val < 5 := by omega
      simp only [e, h, h4, h5, and_self, dite_true]
    · by_cases h5 : f.val = 4
      · have h6 : f.val < 5 := by omega
        simp only [e, h, h4, h5, h6, and_self, dite_true, dite_false, if_true, Nat.lt_irrefl, show (4 : ℕ) < 5 from by omega]
      · have h6 : ¬ f.val < 5 := by omega
        simp only [e, h, h4, h5, h6, and_false, dite_true, dite_false, if_false]
        exact zero_word
  · simp only [e, h, false_and, dite_false]
    exact zero_word

variable (m : (ℓ : Loc nD τ sig) → Buf (Elt Ideal) ℓ) (c : Dev nD)

/-- What the corners' argument holds. -/
abbrev argB : S5000x4.Idx → EReal := m ((c : Thread nD τ).loc main_arg0)
/-- What the scores' argument holds. -/
abbrev argS : S5000.Idx → EReal := m ((c : Thread nD τ).loc main_arg1)

/-- The array of boxes by row, as the host leaves it. -/
theorem rows_written : V m c main_v3 = blocks (argB m c) (argS m c) := by
  show StableHlo.after (List.flatten [hostOps0, hostOps0_1, hostOps0_2]) (fun b => m (c, b)) (Proc.devRef .tc main_v3) = _
  simp only [List.flatten_cons, List.flatten_nil, List.append_nil, List.cons_append, List.nil_append]
  after_results
  rfl

/-- The array of boxes by column, as the host leaves it: the other one transposed. -/
theorem cols_written : V m c main_v4
    = transpose S5x8x1024 [0, 2, 1] (blocks (argB m c) (argS m c)) transposes_S5x1024x8_S5x8x1024_0_2_1 := by
  show StableHlo.after (List.flatten [hostOps0, hostOps0_1, hostOps0_2]) (fun b => m (c, b)) (Proc.devRef .tc main_v4) = _
  simp only [List.flatten_cons, List.flatten_nil, List.append_nil, List.cons_append, List.nil_append]
  after_results
  rfl

/-- The transposed array of blocks. -/
def cols (B : S5000x4.Idx → EReal) (s : S5000.Idx → EReal) : S5x8x1024.Idx → EReal :=
  transpose S5x8x1024 [0, 2, 1] (blocks B s) transposes_S5x1024x8_S5x8x1024_0_2_1

/-- It holds box `1024 b + r` at block `b`, column `r`. -/
theorem cols_apply (B : S5000x4.Idx → EReal) (s : S5000.Idx → EReal) (b : Fin 5) (r : Fin 1024) (f : Fin 8) :
    cols B s (ix3 b f r) = box B s (1024 * b.val + r.val) f := by
  unfold cols
  pointwise
  exact blocks_apply B s b r f

/-- The schedule's block is the whole table. -/
theorem sched_block (t : Fin cfg0.N) : (iblk m c 0 t : Vec Ideal S5x2x2 .i32) = sched := by
  have hz : (fun a => win0_0.index t a * main_c.ty.shape.size a) = fun _ => 0 :=
    funext fun a => by obtain rfl := fin_N0 t; fin_cases a <;> decide
  unfold iblk
  exact (Memref.read_access_unit_zero (Elt Ideal) main_c hz (fun a => by rw [congrFun hz a]; simp) (V m c main_c)).trans
    (sched_written m c)

/-- The block of rows is the whole array of rows. -/
theorem rows_block (t : Fin cfg0.N) : (iblk m c 1 t : Vec Ideal S5x1024x8 .f32) = blocks (argB m c) (argS m c) := by
  have hz : (fun a => win0_1.index t a * main_v3.ty.shape.size a) = fun _ => 0 :=
    funext fun a => by obtain rfl := fin_N0 t; fin_cases a <;> decide
  unfold iblk
  exact (Memref.read_access_unit_zero (Elt Ideal) main_v3 hz (fun a => by rw [congrFun hz a]; simp) (V m c main_v3)).trans
    (rows_written m c)

/-- The block of columns is the whole array of columns. -/
theorem cols_block (t : Fin cfg0.N) : (iblk m c 2 t : Vec Ideal S5x8x1024 .f32) = cols (argB m c) (argS m c) := by
  have hz : (fun a => win0_2.index t a * main_v4.ty.shape.size a) = fun _ => 0 :=
    funext fun a => by obtain rfl := fin_N0 t; fin_cases a <;> decide
  unfold iblk
  exact (Memref.read_access_unit_zero (Elt Ideal) main_v4 hz (fun a => by rw [congrFun hz a]; simp) (V m c main_v4)).trans
    (cols_written m c)

/-- The pair of blocks that step `i` of trip `q` compares, the one with the greater number first. -/
def plan (q : Fin 5) (i j : Fin 2) : Fin 5 :=
  (![![![4, 1], ![3, 2]], ![![2, 0], ![4, 3]], ![![3, 1], ![4, 0]], ![![4, 2], ![1, 0]], ![![3, 0], ![2, 1]]] :
    Fin 5 → Fin 2 → Fin 2 → Fin 5) q i j

/-- The table holds the plan. -/
theorem sched_plan (q : Fin 5) (i j : Fin 2) : (sched (ix3 q i j) : BitVec 32).toNat = (plan q i j).val := by
  revert q i j
  decide

open Classical in
/-- What the kernel's output array holds in the end. -/
def keptBlocks (B : S5000x4.Idx → EReal) (s : S5000.Idx → EReal) : S5x1024x8.Idx → EReal := fun i =>
  if dropK (blocks B s) (cols B s) plan (i 0) (i 1) then 0 else blocks B s i

/-- What the one point writes back is the whole of it. -/
theorem flushed_eq (t : Fin cfg0.N) (hf : (cfg0.win 3).flush t = true) :
    (dats m (hyps m) 0 c).flushed 3 t = ((cfg0.win 3).blk t).view.read (Elt Ideal) (keptBlocks (argB m c) (argS m c)) := by
  have hz : (fun a => win0_3.index t a * main_v5.ty.shape.size a) = fun _ => 0 :=
    funext fun a => by obtain rfl := fin_N0 t; fin_cases a <;> decide
  show (cfg0.win 3).cut (grid0.coords t) ((dats m (hyps m) 0 c).after 3 t) = _
  rw [after0_3]
  have h : outsAt0 m (hyps m) c t = keptBlocks (argB m c) (argS m c) := by
    funext i
    obtain ⟨n, r, f, rfl⟩ : ∃ n r f, i = ix3 n r f := ⟨i 0, i 1, i 2, (ix3_eta i).symm⟩
    unfold outsAt0
    rw [body_value c _ _ _ _ _ _ _ _ _ _ _ _ (iblk m c 0 t) (iblk m c 1 t) (iblk m c 2 t) _ _ _ _ plan
      (fun q i j => by rw [sched_block]; exact sched_plan q i j) n r f, rows_block, cols_block]
    rfl
  rw [h]
  exact (Memref.read_access_unit_zero (Elt Ideal) main_v5 hz (fun a => by rw [congrFun hz a]; simp) _).symm

/-- So the output array ends holding it. -/
theorem final_blocks : (dats m (hyps m) 0 c).arrAt 3 cfg0.N = keptBlocks (argB m c) (argS m c) :=
  (dats m (hyps m) 0 c).arrAt_eq_of_cover 3 (keptBlocks (argB m c) (argS m c)) (flushed_eq m c) fun i =>
    ⟨t0_0, flush0_3 t0_0, by
      show i ∈ ((View.whole main_v5).slice (win0_3.rect t0_0)).set
      rw [View.set_slice_whole, Rect.mem_set_unit]
      intro a
      have h0 : (i 0 : Nat) < 5 := (i 0).isLt
      have h1 : (i 1 : Nat) < 1024 := (i 1).isLt
      have h2 : (i 2 : Nat) < 8 := (i 2).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 5 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 1024 from by decide +kernel]; omega
      | ⟨2, _⟩ => show win0_3.index t0_0 2 * win0_3.size 2 ≤ (i 2 : Nat) ∧ (i 2 : Nat) < win0_3.index t0_0 2 * win0_3.size 2 + win0_3.xsize (grid0.coords t0_0) 2
                  rw [show win0_3.index t0_0 2 * win0_3.size 2 = 0 from by decide +kernel, show win0_3.xsize (grid0.coords t0_0) 2 = 8 from by decide +kernel]; omega⟩

/-- The program's result: the rows of the real boxes, cut to five columns. -/
def kept (B : S5000x4.Idx → EReal) (s : S5000.Idx → EReal) : S5000x5.Idx → EReal :=
  extractStridedSlice S5000x5 ![0, 0] (shapeCast S5120x8 (keptBlocks B s) shapeCasts_S5x1024x8_S5120x8) slices_S5120x8_S5000x5_0_0

open Classical in
/-- Read at row `1024 b + r`: zero where the kernel drops the box, else the box. -/
theorem kept_apply (B : S5000x4.Idx → EReal) (s : S5000.Idx → EReal) (n : Fin 5000) (f : Fin 5) :
    kept B s (ix2 n f) = if dropK (blocks B s) (cols B s) plan ⟨n.val / 1024, by omega⟩ ⟨n.val % 1024, by omega⟩ then 0
      else box B s n.val ⟨f.val, by omega⟩ := by
  unfold kept keptBlocks
  pointwise
  rw [blocks_apply, show 1024 * (n.val / 1024) + n.val % 1024 = n.val from Nat.div_add_mod n.val 1024]

/-- What the host does to the output array after the kernel. -/
theorem tail_value (W : (b : DevRef τ sig) → b.ty.Contents (Elt Ideal)) (X : S5x1024x8.Idx → EReal)
    (h : W (Proc.tc.devRef main_v5) = X) :
    StableHlo.after (hostOps1 (F := Ideal)) W (Proc.tc.devRef main_v7)
      = extractStridedSlice S5000x5 ![0, 0] (shapeCast S5120x8 X shapeCasts_S5x1024x8_S5120x8) slices_S5120x8_S5000x5_0_0 := by
  subst h
  after_results
  rfl

/-- The run of the kernel: the result at `kept` of the arguments, the arguments as they were. -/
theorem kernel_run (ρ : Dev nD → PrngReg) :
    θ_run (defs (F := Ideal)) (onTc (τ := τ) (main (F := Ideal))) ⟨m, fun _ => 0, ρ⟩ fun r => ∀ c : Dev nD,
      r.2.mem ((c : Thread nD τ).loc main_v7) = kept (argB m c) (argS m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, h.2 c⟩) (θ_run_and (run_main m ρ (hyps m)) (unchanged m ρ (hyps m)))
  refine ((h.1 c).2 main_v7 (Pipeline.mem_restRefs_of main_v7 (by decide) (by decide))).trans ?_
  have hw := (Pipeline.withArrays_arr spec0 launch0.win.arr_inj c (V0 m c) (fun w => (dats m (hyps m) 0 c).arrAt w cfg0.N) 3).trans
    (final_blocks m c)
  unfold Pipeline.afterTail₀
  simp only [List.flatten_cons, List.flatten_nil, List.append_nil]
  exact tail_value _ (keptBlocks (argB m c) (argS m c)) hw

end Cert.NmsIdeal

end
-- ==== Proof.ReferenceOrder.lean ====
module

public import proofs.«01_k».proof.Defs
public import proofs.«01_k».proof.Proof.Gen.ReferenceIdeal.Read
public import Idealize.ShloMosaic.Lib.Pointwise
public import Idealize.ShloMosaic.Lib.SortPrefix

@[expose] public section

set_option maxRecDepth 16384

noncomputable section

namespace Cert.NmsReference

open Cert.ReferenceIdeal Cert.ReferenceIdeal.Gen Cert.ReferenceIdeal.Read
open Idealize.ShloMosaic Idealize.ShloMosaic.TcCoe

/-- A stable sort of an increasing list asks the relation only whether a later element goes before an earlier one. -/
theorem stableSort_of_increasing {ι : Type} [LinearOrder ι] (R R' : ι → ι → Bool) (h : ∀ a b, a < b → R b a = R' b a) :
    ∀ l : List ι, l.Pairwise (· < ·) → stableSort R l = stableSort R' l
  | [], _ => rfl
  | a :: l, hl => by
    rw [List.pairwise_cons] at hl
    unfold stableSort
    rw [stableSort_of_increasing R R' h l hl.2]
    exact insertBefore_congr R R' a _ fun b hb => h a b (hl.1 b ((perm_stableSort R' l).mem_iff.1 hb))

/-- Box `a` ranks before box `b`: a greater score, or the same score and an earlier place. -/
def beats {N : ℕ} (s : Fin N → EReal) (a b : Fin N) : Prop := s b < s a ∨ s a = s b ∧ a < b

open Classical in
/-- Ranking before is a strict total order. -/
theorem beats_total {N : ℕ} (s : Fin N → EReal) : StrictTotalBefore fun a b : Fin N => decide (beats s a b) where
  irrefl a := decide_eq_false fun h => h.elim (lt_irrefl _) fun h => lt_irrefl _ h.2
  trans a b c hab hbc := by
    rw [decide_eq_true_eq] at *
    rcases hab with h | ⟨h, h'⟩ <;> rcases hbc with k | ⟨k, k'⟩
    · exact Or.inl (k.trans h)
    · exact Or.inl (k ▸ h)
    · exact Or.inl (h ▸ k)
    · exact Or.inr ⟨h.trans k, h'.trans k'⟩
  total a b hab := by
    rw [decide_eq_true_eq, decide_eq_true_eq]
    rcases lt_trichotomy (s a) (s b) with h | h | h
    · exact Or.inr (Or.inl h)
    · rcases lt_or_gt_of_ne hab with k | k
      · exact Or.inl (Or.inr ⟨h, k⟩)
      · exact Or.inr (Or.inr ⟨h.symm, k⟩)
    · exact Or.inl (Or.inl h)

/-- The stable sort by score alone puts `i` before `j` exactly when the box it puts `i`-th ranks before the `j`-th. -/
theorem sorted_iff {N : ℕ} (s : Fin N → EReal) (R : Fin N → Fin N → Bool) (hR : ∀ a b, R a b = true ↔ s b < s a) (i j : Fin N) :
    i < j ↔ beats s (sortedFrom R i) (sortedFrom R j) := by
  classical
  have e : sortedFrom R = sortedFrom fun a b : Fin N => decide (beats s a b) := by
    funext k
    unfold sortedFrom
    have hp : sortPositions N R = sortPositions N fun a b : Fin N => decide (beats s a b) := by
      refine stableSort_of_increasing R _ (fun a b hab => ?_) _ (List.pairwise_lt_finRange N)
      rw [Bool.eq_iff_iff, hR, decide_eq_true_eq]
      exact ⟨Or.inl, fun h => h.elim id fun h => absurd (h.2.trans hab) (lt_irrefl _)⟩
    rw [List.get_of_eq hp]
    rfl
  have hB := beats_total s
  have key : ∀ a b : Fin N, a < b → beats s (sortedFrom R a) (sortedFrom R b) := by
    intro a b hab
    have h := sortedFrom_noInversion (fun a b : Fin N => decide (beats s a b)) (fun a b : Fin N => decide (beats s a b))
      (fun a b h => hB.asymm a b h) (fun _ _ h => h) hB.negTrans a b hab
    rw [← e] at h
    rcases hB.total (sortedFrom R a) (sortedFrom R b) (fun q => hab.ne (sortedFrom_injective R q)) with k | k
    · exact of_decide_eq_true k
    · exact absurd (of_decide_eq_true k) (of_decide_eq_false h)
  refine ⟨key i j, fun h => ?_⟩
  rcases lt_trichotomy i j with k | k | k
  · exact k
  · subst k
    exact absurd (decide_eq_true h) (by rw [hB.irrefl]; decide)
  · have h' := hB.asymm _ _ (decide_eq_true h)
    exact absurd (key j i k) (of_decide_eq_false h')

/-- The comparator orders two extended reals by «less». -/
theorem comparator_iff (l r : EReal × BitVec 32) : (comparator_f32_i32_d0 (F := Ideal) l r == 1#1) = true ↔ l.1 < r.1 := by
  unfold comparator_f32_i32_d0
  pointwise
  have e : ∀ x : EReal, (if x ≠ x then Ideal.ofBits FTy.f32 2143289344#32 else if x = 0 then 0 else x) = x := fun x => by
    rw [if_neg (fun h => h rfl)]
    by_cases h : x = 0
    · rw [if_pos h, h]
    · rw [if_neg h]
  rw [e l.1, e r.1, Ideal.cmpfTotal_def]
  show (BitVec.ofBool (decide (l.1 < r.1)) == 1#1) = true ↔ _
  by_cases h : l.1 < r.1
  · simp [h]
  · simp [h]

/-- The places of the boxes in rank order. -/
def order (s : S5000.Idx → EReal) : Fin 5000 → Fin 5000 :=
  sortedFrom fun k k' => comparator_f32_i32_d0 (F := Ideal) (val_main_v0 (F := Ideal) s (ix1 k), BitVec.ofNat 32 k.val)
    (val_main_v0 (F := Ideal) s (ix1 k'), BitVec.ofNat 32 k'.val) == 1#1

/-- The sorted array of places holds them. -/
theorem order_written (s : S5000.Idx → EReal) (k : Fin 5000) : val_main_v1 (F := Ideal) s (ix1 k) = BitVec.ofNat 32 (order s k).val := by
  unfold val_main_v1 Host.sort2 order
  rw [dif_pos (show 0 < S5000.rank by decide)]
  have e : ∀ q : Fin 5000, Shape.Idx.along (s := S5000) (ix1 k) (0 : Fin 1) q = ix1 q := fun q => by
    funext a
    obtain rfl : a = (0 : Fin 1) := Fin.ext (Nat.lt_one_iff.1 a.isLt)
    exact Function.update_self _ _ _
  refine (congrArg (val_main_call0_v0 (F := Ideal)) (e _)).trans ?_
  refine congrArg (fun R : Fin 5000 → Fin 5000 → Bool => BitVec.ofNat 32 (sortedFrom R k).val) ?_
  funext a b
  exact congrArg₂ (fun p q : S5000.Idx => comparator_f32_i32_d0 (F := Ideal) (val_main_v0 (F := Ideal) s p, val_main_call0_v0 (F := Ideal) p)
    (val_main_v0 (F := Ideal) s q, val_main_call0_v0 (F := Ideal) q) == 1#1) (e a) (e b)

/-- The `i`-th place comes before the `j`-th exactly when its box ranks before. -/
theorem order_iff (s : S5000.Idx → EReal) (i j : Fin 5000) :
    i < j ↔ beats (fun n => s (ix1 n)) (order s i) (order s j) :=
  sorted_iff (fun n => s (ix1 n)) _ (fun a b => (comparator_iff _ _).trans (by
    rw [val_main_v0_apply, val_main_v0_apply]
    exact EReal.neg_lt_neg_iff)) i j

end Cert.NmsReference

end
-- ==== Proof.Pairwise.lean ====
module

public import proofs.«01_k».proof.Proof.Payload

@[expose] public section

set_option maxRecDepth 16384

noncomputable section

namespace Cert.NmsIdeal

open Cert.KernelIdeal Cert.KernelIdeal.Gen
open Idealize.ShloMosaic Idealize.ShloMosaic.TcCoe

/-- The least area that the reference's union is raised to, and that the precondition asks of a box. -/
def tiny : EReal := Ideal.ofBits .f32 0x3089705F#32

/-- It is a positive real number. -/
theorem tiny_pos : ∃ ε : ℝ, 0 < ε ∧ tiny = (ε : EReal) := by
  unfold tiny
  simp [Ideal.ofBits, Ideal.ieee, -EReal.coe_mul]

/-- The threshold is a real number, not negative. -/
theorem half_real : ∃ t : ℝ, 0 ≤ t ∧ half = (t : EReal) := by
  have h : half ≠ ⊤ := by
    unfold half
    simp [Ideal.ofBits, Ideal.ieee, -EReal.coe_mul]
  have h0 := half_nonneg
  generalize half = x at h h0
  induction x with
  | bot => simp at h0
  | top => exact absurd rfl h
  | coe r => exact ⟨r, by exact_mod_cast h0, rfl⟩

/-- The area that a box's corners span. -/
def area (p : Fin 4 → EReal) : EReal := (p 2 - p 0) * (p 3 - p 1)

/-- The intersection of two boxes as the reference takes it, each side at least zero. -/
def inter (p q : Fin 4 → EReal) : EReal :=
  max 0 (min (p 2) (q 2) - max (p 0) (q 0)) * max 0 (min (p 3) (q 3) - max (p 1) (q 1))

/-- The overlap of two boxes as the reference takes it: the intersection over a union of at least `tiny`. -/
def overlap (p q : Fin 4 → EReal) : EReal := Ideal.div (inter p q) (max (area p + area q - inter p q) tiny)

/-- A difference that is a number is a difference of numbers. -/
theorem sub_real (x y : EReal) (ht : x - y ≠ ⊤) (hb : x - y ≠ ⊥) : ∃ a b : ℝ, x = (a : EReal) ∧ y = (b : EReal) := by
  induction x with
  | bot => simp at hb
  | top =>
    induction y with
    | bot => simp at ht
    | top => simp at hb
    | coe b => simp at ht
  | coe a =>
    induction y with
    | bot => simp at ht
    | top => simp at hb
    | coe b => exact ⟨a, b, rfl, rfl⟩

/-- The first factor of a product that is a positive number is a number. -/
theorem factor_real (x y : EReal) (h : 0 < x * y) (h' : x * y < ⊤) : x ≠ ⊤ ∧ x ≠ ⊥ := by
  constructor
  · rintro rfl
    rcases lt_trichotomy y 0 with hy | rfl | hy
    · rw [EReal.top_mul_of_neg hy] at h; simp at h
    · simp at h
    · rw [EReal.top_mul_of_pos hy] at h'; simp at h'
  · rintro rfl
    rcases lt_trichotomy y 0 with hy | rfl | hy
    · rw [EReal.bot_mul_of_neg hy] at h'; simp at h'
    · simp at h
    · rw [EReal.bot_mul_of_pos hy] at h; simp at h

/-- A box whose area is a number of at least `tiny` has numbers for corners. -/
theorem corners_real (p : Fin 4 → EReal) (h : tiny ≤ area p) (h' : area p < ⊤) :
    ∃ a : Fin 4 → ℝ, ∀ j, p j = (a j : EReal) := by
  obtain ⟨ε, he, e⟩ := tiny_pos
  have hpos : 0 < area p := lt_of_lt_of_le (by rw [e]; exact_mod_cast he) h
  unfold area at hpos h'
  obtain ⟨t1, b1⟩ := factor_real _ _ hpos h'
  obtain ⟨t2, b2⟩ := factor_real (p 3 - p 1) (p 2 - p 0) (by rwa [mul_comm]) (by rwa [mul_comm])
  obtain ⟨x2, x0, e2, e0⟩ := sub_real _ _ t1 b1
  obtain ⟨x3, x1, e3, e1⟩ := sub_real _ _ t2 b2
  refine ⟨![x0, x1, x2, x3], fun j => ?_⟩
  match j with
  | 0 => exact e0
  | 1 => exact e1
  | 2 => exact e2
  | 3 => exact e3

/-- The quotient of two numbers, the second not zero. -/
theorem div_real (x y : ℝ) (hy : y ≠ 0) : Ideal.div (x : EReal) (y : EReal) = ((x / y : ℝ) : EReal) := by
  rw [Ideal.div_coe hy, ← EReal.coe_mul, mul_one_div]

/-- The smaller of two numbers. -/
theorem min_real (x y : ℝ) : min (x : EReal) (y : EReal) = ((min x y : ℝ) : EReal) :=
  (EReal.coe_strictMono.monotone.map_min).symm

/-- The larger of two numbers. -/
theorem max_real (x y : ℝ) : max (x : EReal) (y : EReal) = ((max x y : ℝ) : EReal) :=
  (EReal.coe_strictMono.monotone.map_max).symm

/-- The two quotients on numbers. `dx`, `dy` and `dx'`, `dy'` are the sides of the boxes, `w` and `h` those of the
intersection before they are raised to zero. The kernel raises `h` alone and has no least union. -/
theorem quotients (dx dy dx' dy' w h ε t : ℝ) (hε : 0 < ε) (ht : 0 ≤ t) (hA : ε ≤ dx * dy) (hB : ε ≤ dx' * dy')
    (hw : w ≤ dx) (hw' : w ≤ dx') (hh : h ≤ dy) (hh' : h ≤ dy') :
    0 < dx * dy + dx' * dy' - w * max h 0 ∧
      (t < w * max h 0 / (dx * dy + dx' * dy' - w * max h 0) ↔
        t < max 0 w * max 0 h / max (dx * dy + dx' * dy' - max 0 w * max 0 h) ε) := by
  rcases lt_or_ge h 0 with h0 | h0
  · rw [max_eq_right h0.le, max_eq_left h0.le]
    simp only [mul_zero, zero_div, sub_zero]
    exact ⟨by linarith, trivial⟩
  · rw [max_eq_left h0, max_eq_right h0]
    rcases lt_or_ge w 0 with w0 | w0
    · have hk : w * h ≤ 0 := mul_nonpos_of_nonpos_of_nonneg w0.le h0
      have hu : 0 < dx * dy + dx' * dy' - w * h := by linarith
      rw [max_eq_left w0.le]
      refine ⟨hu, ⟨fun hl => absurd hl (not_lt.2 ((div_nonpos_of_nonpos_of_nonneg hk hu.le).trans ht)), fun hl => ?_⟩⟩
      rw [zero_mul, zero_div] at hl
      exact absurd hl (not_lt.2 ht)
    · rw [max_eq_right w0]
      have h1 : w * h ≤ dx * dy := mul_le_mul hw hh h0 (w0.trans hw)
      have h2 : ε ≤ dx * dy + dx' * dy' - w * h := by linarith
      rw [max_eq_left h2]
      exact ⟨by linarith, Iff.rfl⟩

/-- For boxes of such areas, the kernel's quotient is over the threshold exactly when the reference's overlap is. -/
theorem kiou_iff (p q : Fin 8 → EReal) (p' q' : Fin 4 → EReal) (hp : ∀ j : Fin 4, p ⟨j.val, by omega⟩ = p' j)
    (hq : ∀ j : Fin 4, q ⟨j.val, by omega⟩ = q' j) (h1 : tiny ≤ area p') (h2 : area p' < ⊤) (h3 : tiny ≤ area q')
    (h4 : area q' < ⊤) : half < kiou p q ↔ half < overlap p' q' := by
  obtain ⟨a, ha⟩ := corners_real p' h1 h2
  obtain ⟨b, hb⟩ := corners_real q' h3 h4
  obtain ⟨ε, hε, e⟩ := tiny_pos
  obtain ⟨t, ht, et⟩ := half_real
  have p0 : p 0 = a 0 := (hp 0).trans (ha 0)
  have p1 : p 1 = a 1 := (hp 1).trans (ha 1)
  have p2 : p 2 = a 2 := (hp 2).trans (ha 2)
  have p3 : p 3 = a 3 := (hp 3).trans (ha 3)
  have q0 : q 0 = b 0 := (hq 0).trans (hb 0)
  have q1 : q 1 = b 1 := (hq 1).trans (hb 1)
  have q2 : q 2 = b 2 := (hq 2).trans (hb 2)
  have q3 : q 3 = b 3 := (hq 3).trans (hb 3)
  have z : (0 : EReal) = ((0 : ℝ) : EReal) := rfl
  have hA : ε ≤ (a 2 - a 0) * (a 3 - a 1) := by
    unfold area at h1
    rw [e, ha 0, ha 1, ha 2, ha 3] at h1
    exact_mod_cast h1
  have hB : ε ≤ (b 2 - b 0) * (b 3 - b 1) := by
    unfold area at h3
    rw [e, hb 0, hb 1, hb 2, hb 3] at h3
    exact_mod_cast h3
  obtain ⟨hu, hiff⟩ := quotients (a 2 - a 0) (a 3 - a 1) (b 2 - b 0) (b 3 - b 1)
    (min (a 2) (b 2) - max (a 0) (b 0)) (min (a 3) (b 3) - max (a 1) (b 1)) ε t hε ht hA hB
    (sub_le_sub (min_le_left _ _) (le_max_left _ _)) (sub_le_sub (min_le_right _ _) (le_max_right _ _))
    (sub_le_sub (min_le_left _ _) (le_max_left _ _)) (sub_le_sub (min_le_right _ _) (le_max_right _ _))
  unfold kiou overlap inter area
  rw [p0, p1, p2, p3, q0, q1, q2, q3, ha 0, ha 1, ha 2, ha 3, hb 0, hb 1, hb 2, hb 3, e, et, z]
  simp only [min_real, max_real, ← EReal.coe_sub, ← EReal.coe_mul, ← EReal.coe_add]
  rw [div_real _ _ hu.ne', div_real _ _ (lt_of_lt_of_le hε (le_max_right _ _)).ne']
  simp only [EReal.coe_lt_coe_iff]
  exact hiff

/-- A box of such an area and a box of zeros are never over the threshold in the kernel. -/
theorem kiou_zero (p q : Fin 8 → EReal) (p' : Fin 4 → EReal) (hp : ∀ j : Fin 4, p ⟨j.val, by omega⟩ = p' j)
    (h1 : tiny ≤ area p') (h2 : area p' < ⊤) (hq : ∀ j, q j = 0) : ¬half < kiou p q := by
  obtain ⟨a, ha⟩ := corners_real p' h1 h2
  obtain ⟨ε, hε, e⟩ := tiny_pos
  obtain ⟨t, ht, et⟩ := half_real
  have p0 : p 0 = a 0 := (hp 0).trans (ha 0)
  have p1 : p 1 = a 1 := (hp 1).trans (ha 1)
  have p2 : p 2 = a 2 := (hp 2).trans (ha 2)
  have p3 : p 3 = a 3 := (hp 3).trans (ha 3)
  have z : (0 : EReal) = ((0 : ℝ) : EReal) := rfl
  have hA : ε ≤ (a 2 - a 0) * (a 3 - a 1) := by
    unfold area at h1
    rw [e, ha 0, ha 1, ha 2, ha 3] at h1
    exact_mod_cast h1
  have hk : (min (a 2) 0 - max (a 0) 0) * max (min (a 3) 0 - max (a 1) 0) 0 = 0 := by
    have hh : min (a 3) 0 - max (a 1) 0 ≤ 0 := by linarith [min_le_right (a 3) 0, le_max_right (a 1) 0]
    rw [max_eq_right hh, mul_zero]
  unfold kiou
  rw [p0, p1, p2, p3, hq, hq, hq, hq, et, z]
  simp only [min_real, max_real, ← EReal.coe_sub, ← EReal.coe_mul, ← EReal.coe_add]
  rw [hk, div_real _ _ (by linarith)]
  simp only [EReal.coe_lt_coe_iff, zero_div]
  exact not_lt.2 ht

/-- The kernel's quotient does not ask which box is the row and which the column. -/
theorem kiou_comm (p q : Fin 8 → EReal) : kiou p q = kiou q p := by
  unfold kiou
  rw [min_comm (p 2), max_comm (p 0), min_comm (p 3), max_comm (p 1), add_comm ((p 2 - p 0) * (p 3 - p 1))]

end Cert.NmsIdeal

end
-- ==== Proof.ReferenceValue.lean ====
module

public import proofs.«01_k».proof.Proof.ReferenceOrder
public import proofs.«01_k».proof.Proof.Pairwise
public import Idealize.ShloMosaic.Lib.Routing.OpsPair
public import Idealize.ShloMosaic.Lib.Routing.OpsSet
public import Idealize.ShloMosaic.Lib.WordArith
public import Idealize.ShloMosaic.Lib.WordCmp

@[expose] public section

set_option maxRecDepth 16384

noncomputable section

namespace Cert.NmsReference

open Cert.ReferenceIdeal Cert.ReferenceIdeal.Gen Cert.ReferenceIdeal.Read
open Idealize.ShloMosaic Idealize.ShloMosaic.TcCoe
open Cert.NmsIdeal (half half_nonneg tiny area inter overlap)

/-- The word of a number below 5000 is not negative. -/
theorem word_small (n : Fin 5000) : (BitVec.ofNat 32 n.val).toNat < 2 ^ 31 := by
  have := n.isLt
  simp only [BitVec.toNat_ofNat]
  omega

/-- Comparing the words of two small numbers compares the numbers. -/
theorem word_sge (a b : ℕ) (ha : a < 2 ^ 31) (hb : b < 2 ^ 31) :
    IntOp.cmpi .sge (BitVec.ofNat 32 a) (BitVec.ofNat 32 b) = BitVec.ofBool (decide (b ≤ a)) := by
  rw [WordCmp.cmpi_sge_eq, WordArith.toInt_ofNat_small a ha, WordArith.toInt_ofNat_small b hb]
  simp only [Nat.cast_le]

/-- The same for «at most». -/
theorem word_sle (a b : ℕ) (ha : a < 2 ^ 31) (hb : b < 2 ^ 31) :
    IntOp.cmpi .sle (BitVec.ofNat 32 a) (BitVec.ofNat 32 b) = BitVec.ofBool (decide (a ≤ b)) := by
  rw [WordCmp.cmpi_sle_eq, WordArith.toInt_ofNat_small a ha, WordArith.toInt_ofNat_small b hb]
  simp only [Nat.cast_le]

/-- The place table of the row lookup holds the order of the boxes. -/
theorem lookup_written (s : S5000.Idx → EReal) (k : Fin 5000) :
    val_main_call1_v5 (F := Ideal) s (ix2 k 0) = BitVec.ofNat 32 (order s k).val := by
  have e : val_main_call1_v5 (F := Ideal) s (ix2 k 0) = val_main_call1_v4 (F := Ideal) s (ix1 k) := by
    unfold val_main_call1_v5
    generalize val_main_call1_v4 (F := Ideal) s = y
    pointwise
  rw [e, val_main_call1_v4_apply, val_main_call1_v1_apply, order_written]
  exact Routing.wrap_of_lt _ _ (word_small _)

/-- The place table of the final write holds the order of the boxes. -/
theorem write_written (s : S5000.Idx → EReal) (k : Fin 5000) :
    val_main_v65 (F := Ideal) s (ix2 k 0) = BitVec.ofNat 32 (order s k).val := by
  have e : val_main_v65 (F := Ideal) s (ix2 k 0) = val_main_v64 (F := Ideal) s (ix1 k) := by
    unfold val_main_v65
    generalize val_main_v64 (F := Ideal) s = y
    pointwise
  rw [e, val_main_v64_apply, val_main_v61_apply, order_written]
  exact Routing.wrap_of_lt _ _ (word_small _)

/-- Every place of the table is inside the list of boxes. -/
theorem lookup_inside (s : S5000.Idx → EReal) (k : Fin 5000) :
    val_main_call1_v12 (F := Ideal) s (ix1 k) = 1#1 := by
  have e : ∀ j : Fin 1, val_main_call1_v11 (F := Ideal) s (ix2 k j) = 1#1 := fun j => by
    rw [Subsingleton.elim j 0, val_main_call1_v11_apply, val_main_call1_v7_apply, val_main_call1_v10_apply, lookup_written]
    have h := (order s k).isLt
    have e6 : val_main_call1_v6 (F := Ideal) (ix2 k 0) = 0#32 := by rw [val_main_call1_v6_apply, val_main_call1_c_2_apply]
    have e9 : val_main_call1_v9 (F := Ideal) (ix2 k 0) = 4999#32 := by
      rw [val_main_call1_v9_apply, val_main_call1_v8_apply, val_main_call1_c_1_apply]
    rw [e6, e9]
    generalize (order s k).val = n at h
    rw [word_sge n 0 (by omega) (by norm_num), word_sle n 4999 (by omega) (by norm_num), decide_eq_true (Nat.zero_le n),
      decide_eq_true (show n ≤ 4999 by omega)]
    rfl
  unfold val_main_call1_v12
  generalize val_main_call1_v11 (F := Ideal) s = y at e
  unfold val_main_call1_c_3
  pointwise
  rw [show (fun x => y (ix2 k x)) = fun _ => 1#1 from funext e]
  rfl

/-- The corners of box `n`. -/
def corners (B : S5000x4.Idx → EReal) (n : Fin 5000) : Fin 4 → EReal := fun j => B (ix2 n j)

/-- The looked-up boxes are the boxes in their order. -/
theorem lookup_read (B : S5000x4.Idx → EReal) (s : S5000.Idx → EReal) (k : Fin 5000) (j : Fin 4) :
    val_main_v2 (F := Ideal) B s (ix2 k j) = corners B (order s k) j := by
  have e : val_main_call1_v14 (F := Ideal) s (ix2 k j) = 1#1 := by
    refine Eq.trans ?_ (lookup_inside s k)
    unfold val_main_call1_v14
    generalize val_main_call1_v12 (F := Ideal) s = y
    pointwise
  rw [val_main_v2_apply, e]
  unfold val_main_call1_v13
  rw [ix2_eq_valueIdx]
  refine (Routing.gather_row gather_S5000x4_S5000x1_S5000x4_1_0_n_n_0_1_14 rfl rfl rfl rfl rfl _ _ k j (order s k) ?_ (by norm_num)).trans ?_
  · rw [← ix2_eq_valueIdx]
    exact lookup_written s k
  · rw [← ix2_eq_valueIdx]
    rfl

/-- The row areas are the areas of the boxes in their order. -/
theorem area_rows (B : S5000x4.Idx → EReal) (s : S5000.Idx → EReal) (k : Fin 5000) :
    val_main_v13 (F := Ideal) B s (ix1 k) = area (corners B (order s k)) := by
  have e := lookup_read B s k
  unfold val_main_v13 val_main_v12 val_main_v11 val_main_v10 val_main_v9 val_main_v8 val_main_v7 val_main_v6 val_main_v5
    val_main_v4 val_main_v3
  generalize val_main_v2 (F := Ideal) B s = y at e
  pointwise
  rw [e, e, e, e]
  rfl

/-- The column areas are the same. -/
theorem area_cols (B : S5000x4.Idx → EReal) (s : S5000.Idx → EReal) (k : Fin 5000) :
    val_main_v24 (F := Ideal) B s (ix1 k) = area (corners B (order s k)) := area_rows B s k

/-- The intersection table at two places is the intersection of the boxes there. -/
theorem inter_read (B : S5000x4.Idx → EReal) (s : S5000.Idx → EReal) (j k : Fin 5000) :
    val_main_v45 (F := Ideal) B s (ix2 j k) = inter (corners B (order s j)) (corners B (order s k)) := by
  have ej := lookup_read B s j
  have ek := lookup_read B s k
  unfold val_main_v45 val_main_v44 val_main_v43 val_main_v42 val_main_v41 val_main_v40 val_main_v39 val_main_v38 val_main_v37
    val_main_v36 val_main_v35 val_main_v34 val_main_v33 val_main_v32 val_main_v31 val_main_v30 val_main_v29 val_main_v28
    val_main_v27 val_main_v26 val_main_v25 val_main_call2_v1 val_main_call2_v0 val_main_cst
  generalize val_main_v2 (F := Ideal) B s = y at ej ek
  pointwise
  rw [ej, ej, ej, ej, ek, ek, ek, ek, show id (constant (F := Ideal) S_ FTy.f32 0#32) ix0 = 0 from Ideal.ofBits_zero_f32]
  rfl

/-- The overlap table at two places is the overlap of the boxes there. -/
theorem overlap_read (B : S5000x4.Idx → EReal) (s : S5000.Idx → EReal) (j k : Fin 5000) :
    val_main_v54 (F := Ideal) B s (ix2 j k) = overlap (corners B (order s j)) (corners B (order s k)) := by
  have ej := area_rows B s j
  have ek := area_cols B s k
  have ei := inter_read B s j k
  unfold val_main_v54 val_main_v53 val_main_v52 val_main_v51 val_main_v50 val_main_v49 val_main_v48 val_main_v47 val_main_v46
    val_main_cst_0
  generalize val_main_v13 (F := Ideal) B s = ya at ej
  generalize val_main_v24 (F := Ideal) B s = yb at ek
  generalize val_main_v45 (F := Ideal) B s = yi at ei
  pointwise
  rw [ei, ej, ek]
  rfl

/-- A table with zeros on and under the diagonal is over the threshold only above the diagonal. -/
theorem half_lt_select (a b : ℕ) (ha : a < 2 ^ 31) (hb : b < 2 ^ 31) (x : EReal) :
    half < Scalar.select (IntOp.cmpi .sge (BitVec.ofNat 32 a) (BitVec.ofNat 32 b)) 0 x ↔ a < b ∧ half < x := by
  rw [word_sge a b ha hb]
  by_cases h : b ≤ a
  · rw [decide_eq_true h]
    exact ⟨fun k => absurd k (not_lt.2 half_nonneg), fun k => absurd k.1 (not_lt.2 h)⟩
  · rw [decide_eq_false h]
    exact ⟨fun k => ⟨not_le.1 h, k⟩, fun k => k.2⟩

/-- The bit of «at most the threshold». -/
theorem at_most_half (x : EReal) (p : Prop) [Decidable p] (h : half < x ↔ p) :
    BitVec.ofBool (decide (x ≤ half)) = if p then 0#1 else 1#1 := by
  by_cases hp : p
  · rw [if_pos hp, decide_eq_false (not_le.2 (h.2 hp))]
    rfl
  · rw [if_neg hp, decide_eq_true (not_lt.1 fun k => hp (h.1 k))]
    rfl

/-- A number times the mask's bit. -/
theorem mul_bit (x : EReal) (p : Prop) [Decidable p] :
    x * FloatOps.uitofp (F := Ideal) .f32 (if p then 0#1 else 1#1) = if p then 0 else x := by
  by_cases hp : p
  · rw [if_pos hp, if_pos hp]
    show x * (((0 : ℕ) : ℝ) : EReal) = 0
    simp
  · rw [if_neg hp, if_neg hp]
    show x * (((1 : ℕ) : ℝ) : EReal) = x
    simp

/-- A list of numbers is the start of an endless one. -/
theorem exists_endless {N : ℕ} (g : Fin N → ℕ) : ∃ gi : ℕ → ℕ, ∀ i : Fin N, gi i.val = g i :=
  ⟨fun i => if h : i < N then g ⟨i, h⟩ else 0, fun i => dif_pos i.isLt⟩

/-- The greatest overlap of a place with an earlier one is over the threshold when some earlier one is. -/
theorem greatest_gt (B : S5000x4.Idx → EReal) (s : S5000.Idx → EReal) (k : Fin 5000) :
    half < val_main_v56 (F := Ideal) B s (ix1 k) ↔
      ∃ j : Fin 5000, j < k ∧ half < overlap (corners B (order s j)) (corners B (order s k)) := by
  have e : ∀ j : Fin 5000, half < val_main_v55 (F := Ideal) B s (ix2 j k) ↔
      j < k ∧ half < overlap (corners B (order s j)) (corners B (order s k)) := fun j => by
    rw [← overlap_read]
    unfold val_main_v55 val_main_call3_v5 val_main_call3_cst val_main_call3_v4 val_main_call3_v3 val_main_call3_v2
      val_main_call3_v1 val_main_call3_v0 val_main_call3_c
    generalize val_main_v54 (F := Ideal) B s = y
    pointwise
    rw [show IntOp.addi (BitVec.ofNat 32 j.val) 0#32 = BitVec.ofNat 32 j.val from BitVec.add_zero _]
    exact half_lt_select j.val k.val (lt_trans j.isLt (by norm_num)) (lt_trans k.isLt (by norm_num)) _
  rw [← exists_congr e]
  unfold val_main_v56 val_main_cst_1
  generalize val_main_v55 (F := Ideal) B s = y
  pointwise
  exact Cert.NmsIdeal.half_lt_fold _

/-- Some box that ranks before box `n` overlaps it by more than the threshold. -/
def suppressed (B : S5000x4.Idx → EReal) (s : S5000.Idx → EReal) (n : Fin 5000) : Prop :=
  ∃ n' : Fin 5000, beats (fun n => s (ix1 n)) n' n ∧ half < overlap (corners B n') (corners B n)

/-- The order meets every box. -/
theorem order_surjective (s : S5000.Idx → EReal) : Function.Surjective (order s) := sortedFrom_surjective _

/-- The order meets no box twice. -/
theorem order_injective (s : S5000.Idx → EReal) : Function.Injective (order s) := sortedFrom_injective _

/-- The greatest overlap of a place with an earlier one is over the threshold when its box is suppressed. -/
theorem greatest_iff (B : S5000x4.Idx → EReal) (s : S5000.Idx → EReal) (k : Fin 5000) :
    half < val_main_v56 (F := Ideal) B s (ix1 k) ↔ suppressed B s (order s k) := by
  refine (greatest_gt B s k).trans ?_
  unfold suppressed
  constructor
  · rintro ⟨j, hj, h⟩
    exact ⟨order s j, (order_iff s j k).1 hj, h⟩
  · rintro ⟨n', hb, h⟩
    obtain ⟨j, rfl⟩ := order_surjective s n'
    exact ⟨j, (order_iff s j k).2 hb, h⟩

/-- Comparing two extended reals for «at most». -/
theorem cmp_at_most (x c : EReal) : FloatOps.cmpf (F := Ideal) (φ := .f32) .ole x c = BitVec.ofBool (decide (x ≤ c)) := by
  unfold FloatOps.cmpf
  rfl

/-- The bit of a place, given its greatest overlap. -/
theorem keep_bit (B : S5000x4.Idx → EReal) (s : S5000.Idx → EReal) (k : Fin 5000) :
    val_main_v58 (F := Ideal) B s (ix1 k) = BitVec.ofBool (decide (val_main_v56 (F := Ideal) B s (ix1 k) ≤ half)) := by
  have e : val_main_v57 (F := Ideal) (ix1 k) = half := by
    rw [val_main_v57_apply, val_main_cst_2_apply]
    unfold half
    generalize 0x3F000000#32 = w
    rfl
  rw [val_main_v58_apply, e]
  exact cmp_at_most _ _

open Classical in
/-- A place is kept unless its box is suppressed. -/
theorem keep_read (B : S5000x4.Idx → EReal) (s : S5000.Idx → EReal) (k : Fin 5000) :
    val_main_v58 (F := Ideal) B s (ix1 k) = if suppressed B s (order s k) then 0#1 else 1#1 :=
  (keep_bit B s k).trans (at_most_half _ _ (greatest_iff B s k))

open Classical in
/-- The mask, put back in the boxes' own order. -/
theorem mask_read (B : S5000x4.Idx → EReal) (s : S5000.Idx → EReal) (n : Fin 5000) :
    val_main_v66 (F := Ideal) B s (ix1 n) = if suppressed B s n then 0#1 else 1#1 := by
  obtain ⟨k, rfl⟩ := order_surjective s n
  unfold val_main_v66
  have ew := write_written s
  have ek := keep_read B s
  generalize val_main_v65 (F := Ideal) s = idx at ew
  generalize val_main_v58 (F := Ideal) B s = upd at ek
  obtain ⟨gi, hgi⟩ := exists_endless fun i => (order s i).val
  have hs := (Routing.scatter_set scatter_S5000_S5000x1_S5000_n_0_0_1 rfl rfl rfl (val_main_v59 (F := Ideal)) idx upd gi
    (fun i => (congrArg idx (ix2_eq_valueIdx i 0).symm).trans ((ew i).trans (congrArg _ (hgi i).symm)))
    (fun i => by rw [hgi]; exact lt_trans (order s i).isLt (by norm_num)) (order s k)
    (if suppressed B s (order s k) then 0#1 else 1#1) (fun i hi => by
      rw [hgi] at hi
      rw [order_injective s (Fin.ext hi)]
      exact (congrArg upd (ix1_eq_valueIdx k).symm).trans (ek k))).1 ⟨k, hgi k⟩
  exact (congrArg _ (ix1_eq_valueIdx (order s k))).trans hs

open Classical in
/-- What the reference returns: the rows of the boxes with their scores, zeros in place of a suppressed one. -/
theorem result_read (B : S5000x4.Idx → EReal) (s : S5000.Idx → EReal) (n : Fin 5000) (f : Fin 5) :
    val_main_v72 (F := Ideal) B s (ix2 n f) =
      if suppressed B s n then 0 else if h : f.val < 4 then B (ix2 n ⟨f.val, h⟩) else s (ix1 n) := by
  have e := mask_read B s n
  unfold val_main_v72 val_main_v71 val_main_v70 val_main_v69 val_main_v68 val_main_v67
  generalize val_main_v66 (F := Ideal) B s = y at e
  pointwise
  rw [e]
  exact mul_bit _ _

end Cert.NmsReference

end
-- ==== Proof.Agreement.lean ====
module

public import proofs.«01_k».proof.Proof.KernelValue
public import proofs.«01_k».proof.Proof.ReferenceValue

@[expose] public section

set_option maxRecDepth 16384

noncomputable section

namespace Cert.NmsIdeal

open Cert.KernelIdeal Cert.KernelIdeal.Gen
open Idealize.ShloMosaic Idealize.ShloMosaic.TcCoe
open Cert.NmsReference (beats corners suppressed)

/-- In each step of the plan the first block has the larger number. -/
theorem plan_lt : ∀ (q : Fin 5) (i : Fin 2), plan q i 1 < plan q i 0 := by decide

/-- The plan meets every pair of different blocks. -/
theorem plan_meets : ∀ a b : Fin 5, b < a → ∃ (q : Fin 5) (i : Fin 2), plan q i 0 = a ∧ plan q i 1 = b := by decide

/-- Row `r` of block `b` is box `1024 b + r`. -/
theorem brow_blocks (B : S5000x4.Idx → EReal) (s : S5000.Idx → EReal) (b : Fin 5) (r : Fin 1024) :
    brow (blocks B s) b r = box B s (1024 * b.val + r.val) := funext fun f => blocks_apply B s b r f

/-- Column `r` of block `b` is the same box. -/
theorem bcol_cols (B : S5000x4.Idx → EReal) (s : S5000.Idx → EReal) (b : Fin 5) (r : Fin 1024) :
    bcol (cols B s) b r = box B s (1024 * b.val + r.val) := funext fun f => cols_apply B s b r f

/-- Every column of a block lies in some lane of some strip. -/
theorem strip_surjective (k : Fin 1024) : ∃ s l, strip s l = k :=
  ⟨⟨k.val / 128, by omega⟩, ⟨k.val % 128, by omega⟩, Fin.ext (Nat.div_add_mod k.val 128)⟩

/-- The kernel drops a box exactly when some box, of all blocks with their filling, ranks before it and overlaps it by more than
the threshold. -/
theorem dropK_iff (B : S5000x4.Idx → EReal) (s : S5000.Idx → EReal) (m : Fin 5) (r : Fin 1024) :
    dropK (blocks B s) (cols B s) plan m r ↔ ∃ (b : Fin 5) (k : Fin 1024),
      (box B s (1024 * m.val + r.val) 4 < box B s (1024 * b.val + k.val) 4
        ∨ box B s (1024 * b.val + k.val) 4 = box B s (1024 * m.val + r.val) 4 ∧ 1024 * b.val + k.val < 1024 * m.val + r.val)
      ∧ half < kiou (box B s (1024 * m.val + r.val)) (box B s (1024 * b.val + k.val)) := by
  unfold dropK pairRow pairCol inBlock
  simp only [brow_blocks, bcol_cols]
  constructor
  · rintro (⟨l, ⟨q, i, rfl, t, h, h'⟩ | ⟨t, h, h'⟩⟩ | ⟨q, i, rfl, k, h, h'⟩)
    · refine ⟨_, _, ?_, h'⟩
      rcases h.lt_or_eq with h | h
      · exact Or.inl h
      · have := plan_lt q i
        exact Or.inr ⟨h.symm, by omega⟩
    · refine ⟨_, _, h.imp id fun h => ⟨h.1, by have := h.2; omega⟩, h'⟩
    · exact ⟨_, _, Or.inl (not_le.1 h), by rwa [kiou_comm]⟩
  · rintro ⟨b, k, h, h'⟩
    rcases lt_trichotomy b m with e | rfl | e
    · obtain ⟨q, i, rfl, rfl⟩ := plan_meets m b e
      obtain ⟨t, l, rfl⟩ := strip_surjective k
      exact Or.inl ⟨l, Or.inl ⟨q, i, rfl, t, h.elim le_of_lt fun h => h.1.ge, h'⟩⟩
    · obtain ⟨t, l, rfl⟩ := strip_surjective k
      exact Or.inl ⟨l, Or.inr ⟨t, h.imp id fun h => ⟨h.1, by have := h.2; omega⟩, h'⟩⟩
    · obtain ⟨q, i, rfl, rfl⟩ := plan_meets b m e
      refine Or.inr ⟨q, i, rfl, k, not_le.2 (h.elim id fun h => absurd h.2 (by omega)), by rwa [kiou_comm]⟩

/-- The corners of a box in the filled list. -/
theorem box_corner (B : S5000x4.Idx → EReal) (s : S5000.Idx → EReal) (n : Fin 5000) (j : Fin 4) :
    box B s n.val ⟨j.val, by omega⟩ = corners B n j := by
  have h := n.isLt
  have hj := j.isLt
  unfold box
  simp only [h, hj, dite_true]
  rfl

/-- The score of a box in the filled list. -/
theorem box_score (B : S5000x4.Idx → EReal) (s : S5000.Idx → EReal) (n : Fin 5000) : box B s n.val 4 = s (ix1 n) := by
  have h := n.isLt
  unfold box
  simp only [h, dite_true]
  rfl

/-- The filling is boxes of zeros. -/
theorem box_filling (B : S5000x4.Idx → EReal) (s : S5000.Idx → EReal) (n : ℕ) (h : ¬n < 5000) (f : Fin 8) : box B s n f = 0 := by
  unfold box
  simp only [h, dite_false]

/-- Every box has a number of at least `tiny` for its area. -/
def AreasInRange (B : S5000x4.Idx → EReal) : Prop := ∀ n : Fin 5000, tiny ≤ area (corners B n) ∧ area (corners B n) < ⊤

/-- For such boxes the kernel drops what the reference suppresses. -/
theorem dropK_suppressed (B : S5000x4.Idx → EReal) (s : S5000.Idx → EReal) (hB : AreasInRange B) (n : Fin 5000) :
    dropK (blocks B s) (cols B s) plan ⟨n.val / 1024, by omega⟩ ⟨n.val % 1024, by omega⟩ ↔ suppressed B s n := by
  rw [dropK_iff]
  unfold suppressed beats
  simp only [show 1024 * (n.val / 1024) + n.val % 1024 = n.val from Nat.div_add_mod n.val 1024]
  constructor
  · rintro ⟨b, k, h, h'⟩
    by_cases e : 1024 * b.val + k.val < 5000
    · generalize hc : (⟨1024 * b.val + k.val, e⟩ : Fin 5000) = c
      have hc' : 1024 * b.val + k.val = c.val := by rw [← hc]
      rw [hc', box_score, box_score] at h
      rw [hc', kiou_comm, kiou_iff _ _ _ _ (box_corner B s c) (box_corner B s n) (hB c).1 (hB c).2 (hB n).1 (hB n).2] at h'
      exact ⟨c, h, h'⟩
    · exact absurd h' (kiou_zero _ _ _ (box_corner B s n) (hB n).1 (hB n).2 (box_filling B s _ e))
  · rintro ⟨c, h, h'⟩
    refine ⟨⟨c.val / 1024, by omega⟩, ⟨c.val % 1024, by omega⟩, ?_⟩
    simp only [show 1024 * (c.val / 1024) + c.val % 1024 = c.val from Nat.div_add_mod c.val 1024]
    rw [box_score, box_score, kiou_comm,
      kiou_iff _ _ _ _ (box_corner B s c) (box_corner B s n) (hB c).1 (hB c).2 (hB n).1 (hB n).2]
    exact ⟨h, h'⟩

/-- For such boxes the kernel and the reference return the same array. -/
theorem kept_eq (B : S5000x4.Idx → EReal) (s : S5000.Idx → EReal) (hB : AreasInRange B) :
    kept B s = Cert.ReferenceIdeal.Read.val_main_v72 (F := Ideal) B s := by
  classical
  funext x
  obtain ⟨n, f, rfl⟩ : ∃ (n : Fin 5000) (f : Fin 5), x = ix2 n f := ⟨x 0, x 1, (ix2_eta x).symm⟩
  rw [kept_apply]
  refine Eq.trans ?_ (Cert.NmsReference.result_read B s n f).symm
  refine if_congr (dropK_suppressed B s hB n) rfl ?_
  have h := n.isLt
  unfold box
  by_cases hf : f.val < 4
  · simp only [h, hf, dite_true]
  · have h4 : f.val = 4 := by omega
    simp only [h, hf, h4, dite_true, dite_false, if_true]

end Cert.NmsIdeal

end
-- ==== Proof.lean ====
/- The claim about this kernel: it runs and leaves its arguments alone, as a machine program and over the extended reals; and over
   the extended reals it returns what the reference returns, for boxes whose areas are numbers of at least 1e-9. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.HypsMachine
public import proofs.«01_k».proof.Proof.HypsIdeal
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The side conditions the precondition's own operations take. -/
theorem pre_facts : Cert.Pre_areas_in_range.Facts where
  slices_S5000x4_S5000x1_0_2 := by decide
  shapeCasts_S5000x1_S5000 := by decide
  slices_S5000x4_S5000x1_0_0 := by decide
  slices_S5000x4_S5000x1_0_3 := by decide
  slices_S5000x4_S5000x1_0_1 := by decide
  bcast_S_S5000 := by decide

/-- The kernel runs, leaves its arguments as they were and ends with every semaphore at zero. -/
theorem frame_kernel : Cert.quiescent_Kernel (hKernel := Cert.Kernel.Gen.facts) := fun m ρ _ =>
  Cert.Kernel.Gen.frame m ρ (Cert.NmsMachine.hyps m)

/-- So does the kernel read over the extended reals. -/
theorem frame_ideal : Cert.quiescent_KernelIdeal (hKernelIdeal := Cert.KernelIdeal.Gen.facts) := fun m ρ _ =>
  Cert.KernelIdeal.Gen.frame m ρ (Cert.NmsIdeal.hyps m)

/-- So does the reference: a straight line of array operations that declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Plus infinity. -/
theorem posInf_eq : Ideal.ofBits .f32 0x7F800000#32 = ⊤ := by
  simp [Ideal.ofBits, Ideal.ieee]

/-- Two bits that are both set. -/
theorem both_set (p q : Prop) [Decidable p] [Decidable q]
    (h : IntOp.andi (BitVec.ofBool (decide p)) (BitVec.ofBool (decide q)) = 1#1) : p ∧ q := by
  by_cases hp : p
  · by_cases hq : q
    · exact ⟨hp, hq⟩
    · rw [decide_eq_false hq, decide_eq_true hp] at h
      exact absurd h (by decide)
  · rw [decide_eq_false hp] at h
    by_cases hq : q
    · rw [decide_eq_true hq] at h
      exact absurd h (by decide)
    · rw [decide_eq_false hq] at h
      exact absurd h (by decide)

/-- The precondition says that every area is a number of at least the least area. -/
theorem areas_of_pre (B : Cert.Pre_areas_in_range.S5000x4.Idx → EReal) (s : Cert.Pre_areas_in_range.S5000.Idx → EReal)
    (h : letI := pre_facts; Cert.Pre_areas_in_range.fn (F := Ideal) B s = fun _ => 1#1) : Cert.NmsIdeal.AreasInRange B := fun n => by
  have e := congrFun h (ix1 n)
  unfold Cert.Pre_areas_in_range.fn at e
  pointwise at e
  have e' := both_set _ _ e
  rw [posInf_eq] at e'
  unfold Cert.NmsIdeal.tiny Cert.NmsIdeal.area Cert.NmsReference.corners
  exact e'

/-- Over the extended reals, for boxes of such areas, the kernel and the reference return the same array. -/
theorem same_result : Cert.algebraic_KernelIdeal_ReferenceIdeal_pre_areas_in_range (hKernelIdeal := Cert.KernelIdeal.Gen.facts)
    (hReferenceIdeal := Cert.ReferenceIdeal.Gen.facts) (hPre_areas_in_range := pre_facts) := by
  intro m g m' g' hpre harg
  refine ⟨fun c => Cert.NmsIdeal.kept (Cert.NmsIdeal.argB m c) (Cert.NmsIdeal.argS m c), Cert.NmsIdeal.kernel_run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v72_eq m' c).trans ?_
  refine (congrArg₂ (Cert.ReferenceIdeal.Read.val_main_v72 (F := Ideal)) (harg c).1 (harg c).2).trans ?_
  exact (Cert.NmsIdeal.kept_eq _ _ (areas_of_pre _ _ (hpre c))).symm

/-- All the claims. -/
theorem claim : Cert.Claim :=
  ⟨Cert.Kernel.Gen.facts, Cert.KernelIdeal.Gen.facts, Cert.ReferenceIdeal.Gen.facts, pre_facts,
    frame_kernel, frame_ideal, fun m ρ _ => frame_ideal m ρ trivial, frame_reference,
    fun m ρ _ => frame_reference m ρ trivial, trivial, same_result⟩

end Cert.Proof

end
